-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_scores [hPre_finite_scores : Cert.Pre_finite_scores.Facts] (m : (ℓ : Loc Cert.MergeIdeal.nD Cert.MergeIdeal.τ Cert.MergeIdeal.sig) → Buf (Elt Ideal) ℓ) : Prop :=
  ∀ c : Dev Cert.MergeIdeal.nD,
    (Cert.Pre_finite_scores.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).1 = (fun _ => 1#1)
    ∧ (Cert.Pre_finite_scores.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_scores [hPre_finite_scores : Cert.Pre_finite_scores.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_scores.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).1 = (fun _ => 1#1)
    ∧ (Cert.Pre_finite_scores.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_finite_scores [hMergeIdeal : Cert.MergeIdeal.Facts] [hPre_finite_scores : Cert.Pre_finite_scores.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_scores m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeRefIdeal_pre_finite_scores [hMergeRefIdeal : Cert.MergeRefIdeal.Facts] [hPre_finite_scores : Cert.Pre_finite_scores.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_scores m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def preserves_Merge_MergeIdeal : Prop :=
  IdealRules.named_const.Statement Cert.MergeIdeal.κ "neg_log2e" .f32 0xBFB8AA3B#32 ((-((Real.log 2)⁻¹) : ℝ) : EReal)

def algebraic_MergeIdeal_MergeRefIdeal_pre_finite_scores [hMergeIdeal : Cert.MergeIdeal.Facts] [hMergeRefIdeal : Cert.MergeRefIdeal.Facts] [hPre_finite_scores : Cert.Pre_finite_scores.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_scores m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v19)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v19) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v65) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Ffn_FfnIdeal : Prop :=
  IdealRules.named_const.Statement Cert.FfnIdeal.κ "neg_log2e" .f32 0xBFB8AA3B#32 ((-((Real.log 2)⁻¹) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v5_0)) (v1 : (c : Dev Cert.MemKvIdeal.nD) → Buf (Elt Ideal) ((c.tc : Thread Cert.MemKvIdeal.nD Cert.MemKvIdeal.τ).loc Cert.MemKvIdeal.main_v5_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5_0) = v0 c
          ∧ r.2.mem ((c.tc : Thread Cert.MemKvIdeal.nD Cert.MemKvIdeal.τ).loc Cert.MemKvIdeal.main_v5_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v18) = v0 c
          ∧ r.2.mem ((c.tc : Thread Cert.MemKvRefIdeal.nD Cert.MemKvRefIdeal.τ).loc Cert.MemKvRefIdeal.main_v19) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_ProjS_ProjSIdeal : Prop :=
  IdealRules.named_const.Statement Cert.ProjSIdeal.κ "neg_log2e" .f32 0xBFB8AA3B#32 ((-((Real.log 2)⁻¹) : ℝ) : EReal)

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)) →
    ∃ (v0 : (c : Dev Cert.ProjSIdeal.nD) → Buf (Elt Ideal) ((c.tc : Thread Cert.ProjSIdeal.nD Cert.ProjSIdeal.τ).loc Cert.ProjSIdeal.main_v19_0)) (v1 : (c : Dev Cert.ProjSIdeal.nD) → Buf (Elt Ideal) ((c.tc : Thread Cert.ProjSIdeal.nD Cert.ProjSIdeal.τ).loc Cert.ProjSIdeal.main_v19_1)) (v2 : (c : Dev Cert.ProjSIdeal.nD) → Buf (Elt Ideal) ((c.tc : Thread Cert.ProjSIdeal.nD Cert.ProjSIdeal.τ).loc Cert.ProjSIdeal.main_v19_2)) (v3 : (c : Dev Cert.ProjSIdeal.nD) → Buf (Elt Ideal) ((c.tc : Thread Cert.ProjSIdeal.nD Cert.ProjSIdeal.τ).loc Cert.ProjSIdeal.main_v19_3)) (v4 : (c : Dev Cert.ProjSIdeal.nD) → Buf (Elt Ideal) ((c.tc : Thread Cert.ProjSIdeal.nD Cert.ProjSIdeal.τ).loc Cert.ProjSIdeal.main_v19_4)) (v5 : (c : Dev Cert.ProjSIdeal.nD) → Buf (Elt Ideal) ((c.tc : Thread Cert.ProjSIdeal.nD Cert.ProjSIdeal.τ).loc Cert.ProjSIdeal.main_v19_5)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v19_0) = v0 c
          ∧ r.2.mem ((c.tc : Thread Cert.ProjSIdeal.nD Cert.ProjSIdeal.τ).loc Cert.ProjSIdeal.main_v19_1) = v1 c
          ∧ r.2.mem ((c.tc : Thread Cert.ProjSIdeal.nD Cert.ProjSIdeal.τ).loc Cert.ProjSIdeal.main_v19_2) = v2 c
          ∧ r.2.mem ((c.tc : Thread Cert.ProjSIdeal.nD Cert.ProjSIdeal.τ).loc Cert.ProjSIdeal.main_v19_3) = v3 c
          ∧ r.2.mem ((c.tc : Thread Cert.ProjSIdeal.nD Cert.ProjSIdeal.τ).loc Cert.ProjSIdeal.main_v19_4) = v4 c
          ∧ r.2.mem ((c.tc : Thread Cert.ProjSIdeal.nD Cert.ProjSIdeal.τ).loc Cert.ProjSIdeal.main_v19_5) = v5 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v81) = v0 c
          ∧ r.2.mem ((c.tc : Thread Cert.ProjSRefIdeal.nD Cert.ProjSRefIdeal.τ).loc Cert.ProjSRefIdeal.main_v84) = v1 c
          ∧ r.2.mem ((c.tc : Thread Cert.ProjSRefIdeal.nD Cert.ProjSRefIdeal.τ).loc Cert.ProjSRefIdeal.main_v85) = v2 c
          ∧ r.2.mem ((c.tc : Thread Cert.ProjSRefIdeal.nD Cert.ProjSRefIdeal.τ).loc Cert.ProjSRefIdeal.main_v87) = v3 c
          ∧ r.2.mem ((c.tc : Thread Cert.ProjSRefIdeal.nD Cert.ProjSRefIdeal.τ).loc Cert.ProjSRefIdeal.main_v88) = v4 c
          ∧ r.2.mem ((c.tc : Thread Cert.ProjSRefIdeal.nD Cert.ProjSRefIdeal.τ).loc Cert.ProjSRefIdeal.main_v89) = v5 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5))

def preserves_Proj_ProjIdeal : Prop :=
  IdealRules.named_const.Statement Cert.ProjIdeal.κ "neg_log2e" .f32 0xBFB8AA3B#32 ((-((Real.log 2)⁻¹) : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v12_0)) (v1 : (c : Dev Cert.ProjIdeal.nD) → Buf (Elt Ideal) ((c.tc : Thread Cert.ProjIdeal.nD Cert.ProjIdeal.τ).loc Cert.ProjIdeal.main_v12_1)) (v2 : (c : Dev Cert.ProjIdeal.nD) → Buf (Elt Ideal) ((c.tc : Thread Cert.ProjIdeal.nD Cert.ProjIdeal.τ).loc Cert.ProjIdeal.main_v12_2)) (v3 : (c : Dev Cert.ProjIdeal.nD) → Buf (Elt Ideal) ((c.tc : Thread Cert.ProjIdeal.nD Cert.ProjIdeal.τ).loc Cert.ProjIdeal.main_v12_3)) (v4 : (c : Dev Cert.ProjIdeal.nD) → Buf (Elt Ideal) ((c.tc : Thread Cert.ProjIdeal.nD Cert.ProjIdeal.τ).loc Cert.ProjIdeal.main_v12_4)) (v5 : (c : Dev Cert.ProjIdeal.nD) → Buf (Elt Ideal) ((c.tc : Thread Cert.ProjIdeal.nD Cert.ProjIdeal.τ).loc Cert.ProjIdeal.main_v12_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_0) = v0 c
          ∧ r.2.mem ((c.tc : Thread Cert.ProjIdeal.nD Cert.ProjIdeal.τ).loc Cert.ProjIdeal.main_v12_1) = v1 c
          ∧ r.2.mem ((c.tc : Thread Cert.ProjIdeal.nD Cert.ProjIdeal.τ).loc Cert.ProjIdeal.main_v12_2) = v2 c
          ∧ r.2.mem ((c.tc : Thread Cert.ProjIdeal.nD Cert.ProjIdeal.τ).loc Cert.ProjIdeal.main_v12_3) = v3 c
          ∧ r.2.mem ((c.tc : Thread Cert.ProjIdeal.nD Cert.ProjIdeal.τ).loc Cert.ProjIdeal.main_v12_4) = v4 c
          ∧ r.2.mem ((c.tc : Thread Cert.ProjIdeal.nD Cert.ProjIdeal.τ).loc Cert.ProjIdeal.main_v12_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v138) = v0 c
          ∧ r.2.mem ((c.tc : Thread Cert.ProjRefIdeal.nD Cert.ProjRefIdeal.τ).loc Cert.ProjRefIdeal.main_v141) = v1 c
          ∧ r.2.mem ((c.tc : Thread Cert.ProjRefIdeal.nD Cert.ProjRefIdeal.τ).loc Cert.ProjRefIdeal.main_v142) = v2 c
          ∧ r.2.mem ((c.tc : Thread Cert.ProjRefIdeal.nD Cert.ProjRefIdeal.τ).loc Cert.ProjRefIdeal.main_v144) = v3 c
          ∧ r.2.mem ((c.tc : Thread Cert.ProjRefIdeal.nD Cert.ProjRefIdeal.τ).loc Cert.ProjRefIdeal.main_v146) = v4 c
          ∧ r.2.mem ((c.tc : Thread Cert.ProjRefIdeal.nD Cert.ProjRefIdeal.τ).loc Cert.ProjRefIdeal.main_v147) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def Claim : Prop :=
  ∃ (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hMemKv : Cert.MemKv.Facts) (hMemKvIdeal : Cert.MemKvIdeal.Facts) (hMemKvRefIdeal : Cert.MemKvRefIdeal.Facts) (hProjS : Cert.ProjS.Facts) (hProjSIdeal : Cert.ProjSIdeal.Facts) (hProjSRefIdeal : Cert.ProjSRefIdeal.Facts) (hProj : Cert.Proj.Facts) (hProjIdeal : Cert.ProjIdeal.Facts) (hProjRefIdeal : Cert.ProjRefIdeal.Facts) (hPre_finite_scores : Cert.Pre_finite_scores.Facts),
    quiescent_Merge (hMerge := hMerge)
    ∧ quiescent_MergeIdeal (hMergeIdeal := hMergeIdeal)
    ∧ quiescent_MergeIdeal_pre_finite_scores (hMergeIdeal := hMergeIdeal) (hPre_finite_scores := hPre_finite_scores)
    ∧ quiescent_MergeRefIdeal (hMergeRefIdeal := hMergeRefIdeal)
    ∧ quiescent_MergeRefIdeal_pre_finite_scores (hMergeRefIdeal := hMergeRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Proj (hProj := hProj)
    ∧ quiescent_ProjIdeal (hProjIdeal := hProjIdeal)
    ∧ quiescent_ProjRefIdeal (hProjRefIdeal := hProjRefIdeal)
    ∧ preserves_Merge_MergeIdeal
    ∧ algebraic_MergeIdeal_MergeRefIdeal_pre_finite_scores (hMergeIdeal := hMergeIdeal) (hMergeRefIdeal := hMergeRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_MemKv_MemKvIdeal
    ∧ algebraic_MemKvIdeal_MemKvRefIdeal (hMemKvIdeal := hMemKvIdeal) (hMemKvRefIdeal := hMemKvRefIdeal)
    ∧ preserves_ProjS_ProjSIdeal
    ∧ algebraic_ProjSIdeal_ProjSRefIdeal (hProjSIdeal := hProjSIdeal) (hProjSRefIdeal := hProjSRefIdeal)
    ∧ preserves_Proj_ProjIdeal
    ∧ algebraic_ProjIdeal_ProjRefIdeal (hProjIdeal := hProjIdeal) (hProjRefIdeal := hProjRefIdeal)
-- ==== Pre_finite_scores.lean ====
abbrev S8x2048x1024 : Shape := ⟨3, ![8, 2048, 1024]⟩
abbrev S8x2048x512 : Shape := ⟨3, ![8, 2048, 512]⟩
abbrev S8x256x4x128 : Shape := ⟨4, ![8, 256, 4, 128]⟩
abbrev S1x1024 : Shape := ⟨2, ![1, 1024]⟩
abbrev S1x1024x8720 : Shape := ⟨3, ![1, 1024, 8720]⟩
abbrev S1x1024x1024 : Shape := ⟨3, ![1, 1024, 1024]⟩
abbrev S1x512x1024 : Shape := ⟨3, ![1, 512, 1024]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  bcast_S_S8x256x4x128 : S_.BroadcastsInDim S8x256x4x128 (![] : Fin 0 → Fin S8x256x4x128.rank)

variable [Facts]

def fn {F : FTy → Type} [FloatOps F] (main_arg0 : FVec F S8x2048x1024 .f32) (main_arg1 : FVec F S8x2048x1024 .bf16) (main_arg2 : FVec F S8x2048x512 .bf16) (main_arg3 : FVec F S8x2048x512 .bf16) (main_arg4 : FVec F S8x256x4x128 .f32) (main_arg5 : FVec F S8x256x4x128 .f32) (main_arg6 : FVec F S1x1024 .f32) (main_arg7 : FVec F S1x1024x8720 .f32) (main_arg8 : FVec F S1x1024x1024 .f32) (main_arg9 : FVec F S1x512x1024 .f32) (main_arg10 : FVec F S1x512x1024 .f32) (main_arg11 : FVec F S1x1024x1024 .f32) : IVec S8x2048x512 1 × IVec S8x256x4x128 1 :=
  let main_v0 : FVec F S8x2048x512 .f32 := (extf .f32 · bitsLt_bf16_f32) main_arg3
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_v4 : FVec F S8x256x4x128 .f32 := Host.absf main_arg4
  let main_cst_0 : FVec F S_ .f32 := constant S_ .f32 0x7F800000#32
  let main_v5 : FVec F S8x256x4x128 .f32 := broadcastInDim S8x256x4x128 ![] bcast_S_S8x256x4x128 main_cst_0
  let main_v6 : IVec S8x256x4x128 1 := cmpf .olt main_v4 main_v5
  (main_v3, main_v6)
-- ==== Merge.lean ====
abbrev S8x2048x1024 : Shape := ⟨3, ![8, 2048, 1024]⟩
abbrev S8x2048x512 : Shape := ⟨3, ![8, 2048, 512]⟩
abbrev S8x256x4x128 : Shape := ⟨4, ![8, 256, 4, 128]⟩
abbrev S1x1024 : Shape := ⟨2, ![1, 1024]⟩
abbrev S1x1024x8720 : Shape := ⟨3, ![1, 1024, 8720]⟩
abbrev S1x1024x1024 : Shape := ⟨3, ![1, 1024, 1024]⟩
abbrev S1x512x1024 : Shape := ⟨3, ![1, 512, 1024]⟩
abbrev S1024x8720 : Shape := ⟨2, ![1024, 8720]⟩
abbrev S8720x1024 : Shape := ⟨2, ![8720, 1024]⟩
abbrev S1024x1024 : Shape := ⟨2, ![1024, 1024]⟩
abbrev S512x1024 : Shape := ⟨2, ![512, 1024]⟩
abbrev S16384x1024 : Shape := ⟨2, ![16384, 1024]⟩
abbrev S8x256x512 : Shape := ⟨3, ![8, 256, 512]⟩
abbrev S16384x512 : Shape := ⟨2, ![16384, 512]⟩
abbrev S1024 : Shape := ⟨1, ![1024]⟩
abbrev S512x512 : Shape := ⟨2, ![512, 512]⟩
abbrev S1x256x512 : Shape := ⟨3, ![1, 256, 512]⟩
abbrev S3072x1024 : Shape := ⟨2, ![3072, 1024]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 32
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .hbm, ⟨4, _⟩ => ⟨S8x256x4x128, .f32⟩
  | .hbm, ⟨5, _⟩ => ⟨S8x256x4x128, .f32⟩
  | .hbm, ⟨6, _⟩ => ⟨S1x1024, .f32⟩
  | .hbm, ⟨7, _⟩ => ⟨S1x1024x8720, .f32⟩
  | .hbm, ⟨8, _⟩ => ⟨S1x1024x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1024x8720, .f32⟩
  | .hbm, ⟨13, _⟩ => ⟨S8720x1024, .f32⟩
  | .hbm, ⟨14, _⟩ => ⟨S8720x1024, .bf16⟩
  | .hbm, ⟨15, _⟩ => ⟨S1024x1024, .f32⟩
  | .hbm, ⟨16, _⟩ => ⟨S1024x1024, .bf16⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S16384x1024, .f32⟩
  | .hbm, ⟨24, _⟩ => ⟨S8x256x512, .f32⟩
  | .hbm, ⟨25, _⟩ => ⟨S8x256x512, .f32⟩
  | .hbm, ⟨26, _⟩ => ⟨S16384x1024, .bf16⟩
  | .hbm, ⟨27, _⟩ => ⟨S16384x512, .bf16⟩
  | .hbm, ⟨28, _⟩ => ⟨S16384x512, .bf16⟩
  | .hbm, ⟨29, _⟩ => ⟨S1024, .f32⟩
  | .hbm, ⟨30, _⟩ => ⟨S1x1024, .f32⟩
  | .hbm, ⟨31, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x1024, .f32⟩
  | .local _ .vmem, ⟨13, _⟩ => ⟨S3072x1024, .bf16⟩
  | .local _ .vmem, ⟨14, _⟩ => ⟨S1024x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c5648_i32 : BitVec 32 := 5648#32
  let c0_i32 : BitVec 32 := 0#32
  let c0_i32_0 : BitVec 32 := 0#32
  ![c5648_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeIdeal.lean ====
variable {F : FTy → Type} [FloatOps F] [Named F]
def κ : String → Option EReal := fun
  | "neg_log2e" => some ((-((Real.log 2)⁻¹) : ℝ) : EReal)
  | _ => none
-- ==== MergeRefIdeal.lean ====
abbrev S8x2048x1024 : Shape := ⟨3, ![8, 2048, 1024]⟩
abbrev S8x2048x512 : Shape := ⟨3, ![8, 2048, 512]⟩
abbrev S8x256x4x128 : Shape := ⟨4, ![8, 256, 4, 128]⟩
abbrev S1x1024 : Shape := ⟨2, ![1, 1024]⟩
abbrev S1x1024x8720 : Shape := ⟨3, ![1, 1024, 8720]⟩
abbrev S1x1024x1024 : Shape := ⟨3, ![1, 1024, 1024]⟩
abbrev S1x512x1024 : Shape := ⟨3, ![1, 512, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x8720 : Shape := ⟨2, ![1024, 8720]⟩
abbrev S8x2048x8720 : Shape := ⟨3, ![8, 2048, 8720]⟩
abbrev S8x2048x3072 : Shape := ⟨3, ![8, 2048, 3072]⟩
abbrev S8x2048x4x128 : Shape := ⟨4, ![8, 2048, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x3x1024 : Shape := ⟨4, ![8, 2048, 3, 1024]⟩
abbrev S8x2048x1x1024 : Shape := ⟨4, ![8, 2048, 1, 1024]⟩
abbrev S1024x1024 : Shape := ⟨2, ![1024, 1024]⟩
abbrev S512x1024 : Shape := ⟨2, ![512, 1024]⟩
abbrev S16384x1024 : Shape := ⟨2, ![16384, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .hbm, ⟨4, _⟩ => ⟨S8x256x4x128, .f32⟩
  | .hbm, ⟨5, _⟩ => ⟨S8x256x4x128, .f32⟩
  | .hbm, ⟨6, _⟩ => ⟨S1x1024, .f32⟩
  | .hbm, ⟨7, _⟩ => ⟨S1x1024x8720, .f32⟩
  | .hbm, ⟨8, _⟩ => ⟨S1x1024x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S8x2048x1024, .f32⟩
  | .hbm, ⟨13, _⟩ => ⟨S8x2048x512, .f32⟩
  | .hbm, ⟨14, _⟩ => ⟨S8x2048x512, .f32⟩
  | .hbm, ⟨15, _⟩ => ⟨S1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S1024x8720, .f32⟩
  | .hbm, ⟨33, _⟩ => ⟨S8x2048x8720, .f32⟩
  | .hbm, ⟨34, _⟩ => ⟨S8x2048x3072, .f32⟩
  | .hbm, ⟨35, _⟩ => ⟨S8x2048x4x128, .f32⟩
  | .hbm, ⟨36, _⟩ => ⟨S8x4x2048x256, .f32⟩
  | .hbm, ⟨37, _⟩ => ⟨S_, .f32⟩
  | .hbm, ⟨38, _⟩ => ⟨S8x4x2048x256, .f32⟩
  | .hbm, ⟨39, _⟩ => ⟨S8x4x2048x256, .f32⟩
  | .hbm, ⟨40, _⟩ => ⟨S_, .f32⟩
  | .hbm, ⟨41, _⟩ => ⟨S8x4x2048, .f32⟩
  | .hbm, ⟨42, _⟩ => ⟨S_, .f32⟩
  | .hbm, ⟨43, _⟩ => ⟨S8x4x2048, .f32⟩
  | .hbm, ⟨44, _⟩ => ⟨S8x4x2048, .f32⟩
  | .hbm, ⟨45, _⟩ => ⟨S8x4x2048x1, .f32⟩
  | .hbm, ⟨46, _⟩ => ⟨S8x4x2048x256, .f32⟩
  | .hbm, ⟨47, _⟩ => ⟨S8x4x2048x256, .f32⟩
  | .hbm, ⟨48, _⟩ => ⟨S8x4x2048x256, .f32⟩
  | .hbm, ⟨49, _⟩ => ⟨S_, .f32⟩
  | .hbm, ⟨50, _⟩ => ⟨S8x4x2048, .f32⟩
  | .hbm, ⟨51, _⟩ => ⟨S8x4x2048x1, .f32⟩
  | .hbm, ⟨52, _⟩ => ⟨S8x4x2048x256, .f32⟩
  | .hbm, ⟨53, _⟩ => ⟨S8x4x2048x256, .f32⟩
  | .hbm, ⟨54, _⟩ => ⟨S8x4x128x2048, .f32⟩
  | .hbm, ⟨55, _⟩ => ⟨S8x2048x4x128, .f32⟩
  | .hbm, ⟨56, _⟩ => ⟨S8x2048x512, .f32⟩
  | .hbm, ⟨57, _⟩ => ⟨S8x2048x3072, .f32⟩
  | .hbm, ⟨58, _⟩ => ⟨S8x2048x3072, .f32⟩
  | .hbm, ⟨59, _⟩ => ⟨S_, .f32⟩
  | .hbm, ⟨60, _⟩ => ⟨S8x2048x3072, .f32⟩
  | .hbm, ⟨61, _⟩ => ⟨S8x2048x3072, .f32⟩
  | .hbm, ⟨62, _⟩ => ⟨S_, .f32⟩
  | .hbm, ⟨63, _⟩ => ⟨S8x2048x3072, .f32⟩
  | .hbm, ⟨64, _⟩ => ⟨S8x2048x3072, .f32⟩
  | .hbm, ⟨65, _⟩ => ⟨S8x2048x3x1024, .f32⟩
  | .hbm, ⟨66, _⟩ => ⟨S8x2048x1x1024, .f32⟩
  | .hbm, ⟨67, _⟩ => ⟨S8x2048x1024, .f32⟩
  | .hbm, ⟨68, _⟩ => ⟨S1024x1024, .f32⟩
  | .hbm, ⟨69, _⟩ => ⟨S8x2048x1024, .f32⟩
  | .hbm, ⟨70, _⟩ => ⟨S8x2048x1024, .f32⟩
  | .hbm, ⟨71, _⟩ => ⟨S8x2048x1x1024, .f32⟩
  | .hbm, ⟨72, _⟩ => ⟨S8x2048x1024, .f32⟩
  | .hbm, ⟨73, _⟩ => ⟨S512x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S8x2048x1x1024, .f32⟩
  | .hbm, ⟨78, _⟩ => ⟨S8x2048x1024, .f32⟩
  | .hbm, ⟨79, _⟩ => ⟨S512x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S1024x1024, .f32⟩
  | .hbm, ⟨84, _⟩ => ⟨S8x2048x1024, .f32⟩
  | .hbm, ⟨85, _⟩ => ⟨S8x2048x1024, .f32⟩
  | .hbm, ⟨86, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Ffn.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024x5632, .f32⟩
  | .hbm, ⟨6, _⟩ => ⟨S1024x5632, .bf16⟩
  | .hbm, ⟨7, _⟩ => ⟨S2816x1024, .f32⟩
  | .hbm, ⟨8, _⟩ => ⟨S2816x1024, .bf16⟩
  | .hbm, ⟨9, _⟩ => ⟨S16384x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnIdeal.lean ====
variable {F : FTy → Type} [FloatOps F] [Named F]
def κ : String → Option EReal := fun
  | "neg_log2e" => some ((-((Real.log 2)⁻¹) : ℝ) : EReal)
  | _ => none
-- ==== FfnRefIdeal.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S8x2048x2816 : Shape := ⟨3, ![8, 2048, 2816]⟩
abbrev S2816x1024 : Shape := ⟨2, ![2816, 1024]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x5632, .f32⟩
  | .hbm, ⟨23, _⟩ => ⟨S8x2048x5632, .f32⟩
  | .hbm, ⟨24, _⟩ => ⟨S8x2048x2816, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S2816x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x1, .f32⟩
  | .hbm, ⟨50, _⟩ => ⟨S8x2048x1024, .f32⟩
  | .hbm, ⟨51, _⟩ => ⟨S8x2048x1024, .f32⟩
  | .hbm, ⟨52, _⟩ => ⟨S1x1x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== MemKv.lean ====
abbrev S8x256x1024 : Shape := ⟨3, ![8, 256, 1024]⟩
abbrev S1x1024 : Shape := ⟨2, ![1, 1024]⟩
abbrev S1x1024x1024 : Shape := ⟨3, ![1, 1024, 1024]⟩
abbrev S1024x1024 : Shape := ⟨2, ![1024, 1024]⟩
abbrev S2048x1024 : Shape := ⟨2, ![2048, 1024]⟩
abbrev S1024 : Shape := ⟨1, ![1024]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1024x1024, .f32⟩
  | .hbm, ⟨4, _⟩ => ⟨S1024x1024, .bf16⟩
  | .hbm, ⟨5, _⟩ => ⟨S2048x1024, .f32⟩
  | .hbm, ⟨6, _⟩ => ⟨S1024, .f32⟩
  | .hbm, ⟨7, _⟩ => ⟨S1x1024, .f32⟩
  | .hbm, ⟨8, _⟩ => ⟨S2048x512, .f32⟩
  | .hbm, ⟨9, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x512 : Shape := ⟨3, ![8, 256, 512]⟩
abbrev S2048x512 : Shape := ⟨2, ![2048, 512]⟩

abbrev nBuf : Space → Nat
  | .hbm => 26
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x1024, .f32⟩
  | .hbm, ⟨21, _⟩ => ⟨S8x256x1024, .f32⟩
  | .hbm, ⟨22, _⟩ => ⟨S8x256x512, .f32⟩
  | .hbm, ⟨23, _⟩ => ⟨S8x256x512, .f32⟩
  | .hbm, ⟨24, _⟩ => ⟨S2048x512, .f32⟩
  | .hbm, ⟨25, _⟩ => ⟨S2048x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== ProjS.lean ====
abbrev S128x8x1024 : Shape := ⟨3, ![128, 8, 1024]⟩
abbrev S1x1024 : Shape := ⟨2, ![1, 1024]⟩
abbrev S1x1024x8720 : Shape := ⟨3, ![1, 1024, 8720]⟩
abbrev S1x512 : Shape := ⟨2, ![1, 512]⟩
abbrev S1x4x128x128 : Shape := ⟨4, ![1, 4, 128, 128]⟩
abbrev S1x4x128 : Shape := ⟨3, ![1, 4, 128]⟩
abbrev S1024x8720 : Shape := ⟨2, ![1024, 8720]⟩
abbrev S8720x1024 : Shape := ⟨2, ![8720, 1024]⟩
abbrev S1024x1024 : Shape := ⟨2, ![1024, 1024]⟩
abbrev S4x128x128 : Shape := ⟨3, ![4, 128, 128]⟩
abbrev S4x8x8 : Shape := ⟨3, ![4, 8, 8]⟩
abbrev S1x4x1x8x1x8 : Shape := ⟨6, ![1, 4, 1, 8, 1, 8]⟩
abbrev S1x4x16x8x16x8 : Shape := ⟨6, ![1, 4, 16, 8, 16, 8]⟩
abbrev S4x128 : Shape := ⟨2, ![4, 128]⟩
abbrev S4x8 : Shape := ⟨2, ![4, 8]⟩
abbrev S1x4x1x8 : Shape := ⟨4, ![1, 4, 1, 8]⟩
abbrev S1x4x16x8 : Shape := ⟨4, ![1, 4, 16, 8]⟩
abbrev S128x4 : Shape := ⟨2, ![128, 4]⟩
abbrev S1024 : Shape := ⟨1, ![1024]⟩
abbrev S512 : Shape := ⟨1, ![512]⟩
abbrev S1024x3072 : Shape := ⟨2, ![1024, 3072]⟩
abbrev S1024x128 : Shape := ⟨2, ![1024, 128]⟩
abbrev S1024x512 : Shape := ⟨2, ![1024, 512]⟩
abbrev S512x1024 : Shape := ⟨2, ![512, 1024]⟩
abbrev S4096x1024 : Shape := ⟨2, ![4096, 1024]⟩
abbrev S1552x1024 : Shape := ⟨2, ![1552, 1024]⟩
abbrev S512x3072 : Shape := ⟨2, ![512, 3072]⟩
abbrev S512x128 : Shape := ⟨2, ![512, 128]⟩
abbrev S512x512 : Shape := ⟨2, ![512, 512]⟩
abbrev S512x1 : Shape := ⟨2, ![512, 1]⟩
abbrev S3072x1024 : Shape := ⟨2, ![3072, 1024]⟩
abbrev S128x1024 : Shape := ⟨2, ![128, 1024]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 31
  | .vmem => 20
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x8720, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S1024x8720, .f32⟩
  | .hbm, ⟨7, _⟩ => ⟨S8720x1024, .f32⟩
  | .hbm, ⟨8, _⟩ => ⟨S8720x1024, .bf16⟩
  | .hbm, ⟨9, _⟩ => ⟨S1024x1024, .f32⟩
  | .hbm, ⟨10, _⟩ => ⟨S4x128x128, .f32⟩
  | .hbm, ⟨11, _⟩ => ⟨S4x8x8, .f32⟩
  | .hbm, ⟨12, _⟩ => ⟨S1x4x1x8x1x8, .f32⟩
  | .hbm, ⟨13, _⟩ => ⟨S1x4x16x8x16x8, .f32⟩
  | .hbm, ⟨14, _⟩ => ⟨S4x128x128, .f32⟩
  | .hbm, ⟨15, _⟩ => ⟨S4x128, .f32⟩
  | .hbm, ⟨16, _⟩ => ⟨S4x8, .f32⟩
  | .hbm, ⟨17, _⟩ => ⟨S1x4x1x8, .f32⟩
  | .hbm, ⟨18, _⟩ => ⟨S1x4x16x8, .f32⟩
  | .hbm, ⟨19, _⟩ => ⟨S4x128, .f32⟩
  | .hbm, ⟨20, _⟩ => ⟨S128x4, .f32⟩
  | .hbm, ⟨21, _⟩ => ⟨S1024, .f32⟩
  | .hbm, ⟨22, _⟩ => ⟨S512, .f32⟩
  | .hbm, ⟨23, _⟩ => ⟨S1x1024, .f32⟩
  | .hbm, ⟨24, _⟩ => ⟨S1x512, .f32⟩
  | .hbm, ⟨25, _⟩ => ⟨S1024x3072, .f32⟩
  | .hbm, ⟨26, _⟩ => ⟨S1024x1024, .bf16⟩
  | .hbm, ⟨27, _⟩ => ⟨S1024x128, .f32⟩
  | .hbm, ⟨28, _⟩ => ⟨S1024x512, .bf16⟩
  | .hbm, ⟨29, _⟩ => ⟨S1024x512, .f32⟩
  | .hbm, ⟨30, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4096x1024, .bf16⟩
  | .local _ .vmem, ⟨4, _⟩ => ⟨S1552x1024, .bf16⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v19_2 : Ref sig .tc := ⟨.hbm, 27, rfl⟩
abbrev main_v19_3 : Ref sig .tc := ⟨.hbm, 28, rfl⟩
abbrev main_v19_4 : Ref sig .tc := ⟨.hbm, 29, rfl⟩
abbrev main_v19_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4096_i32 : BitVec 32 := 4096#32
  let c0_i32 : BitVec 32 := 0#32
  let c0_i32_0 : BitVec 32 := 0#32
  ![c4096_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1552x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjSIdeal.lean ====
variable {F : FTy → Type} [FloatOps F] [Named F]
def κ : String → Option EReal := fun
  | "neg_log2e" => some ((-((Real.log 2)⁻¹) : ℝ) : EReal)
  | _ => none
-- ==== ProjSRefIdeal.lean ====
abbrev S128x8x1024 : Shape := ⟨3, ![128, 8, 1024]⟩
abbrev S1x1024 : Shape := ⟨2, ![1, 1024]⟩
abbrev S1x1024x8720 : Shape := ⟨3, ![1, 1024, 8720]⟩
abbrev S1x512 : Shape := ⟨2, ![1, 512]⟩
abbrev S1x4x128x128 : Shape := ⟨4, ![1, 4, 128, 128]⟩
abbrev S1x4x128 : Shape := ⟨3, ![1, 4, 128]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x8720 : Shape := ⟨2, ![1024, 8720]⟩
abbrev S128x8x8720 : Shape := ⟨3, ![128, 8, 8720]⟩
abbrev S128x8x3072 : Shape := ⟨3, ![128, 8, 3072]⟩
abbrev S128x8x8 : Shape := ⟨3, ![128, 8, 8]⟩
abbrev S128x8x512 : Shape := ⟨3, ![128, 8, 512]⟩
abbrev S512 : Shape := ⟨1, ![512]⟩
abbrev S1x1x512 : Shape := ⟨3, ![1, 1, 512]⟩
abbrev S4x128x128 : Shape := ⟨3, ![4, 128, 128]⟩
abbrev S4x128 : Shape := ⟨2, ![4, 128]⟩
abbrev S128x128x512 : Shape := ⟨3, ![128, 128, 512]⟩
abbrev S128x1x128x4x128 : Shape := ⟨5, ![128, 1, 128, 4, 128]⟩
abbrev S128x128 : Shape := ⟨2, ![128, 128]⟩
abbrev S4x128x1x128x128 : Shape := ⟨5, ![4, 128, 1, 128, 128]⟩
abbrev S128x4 : Shape := ⟨2, ![128, 4]⟩
abbrev S1x1x128x4x1 : Shape := ⟨5, ![1, 1, 128, 4, 1]⟩
abbrev S128x8x128 : Shape := ⟨3, ![128, 8, 128]⟩
abbrev S1024x3072 : Shape := ⟨2, ![1024, 3072]⟩
abbrev S1024x1024 : Shape := ⟨2, ![1024, 1024]⟩
abbrev S1024x128 : Shape := ⟨2, ![1024, 128]⟩
abbrev S1024x512 : Shape := ⟨2, ![1024, 512]⟩

abbrev nBuf : Space → Nat
  | .hbm => 133
  | .vmem => 0
  | .smem => 0
  | _ => 0

abbrev hbmTy0_0 (i : Nat) : BufTy := match i % 128 with
  | 0 => ⟨S128x8x1024, .f32⟩
  | 1 => ⟨S1x1024, .f32⟩
  | 2 => ⟨S1x1024x8720, .f32⟩
  | 3 => ⟨S1x512, .f32⟩
  | 4 => ⟨S1x4x128x128, .f32⟩
  | 5 => ⟨S1x4x128, .f32⟩
  | 6 => ⟨S1024, .f32⟩
  | 7 => ⟨S128x8x1024, .f32⟩
  | 8 => ⟨S_, .f32⟩
  | 9 => ⟨S128x8, .f32⟩
  | 10 => ⟨S128x8x1, .f32⟩
  | 11 => ⟨S_, .f32⟩
  | 12 => ⟨S128x8x1, .f32⟩
  | 13 => ⟨S128x8x1, .f32⟩
  | 14 => ⟨S_, .f32⟩
  | 15 => ⟨S128x8x1, .f32⟩
  | 16 => ⟨S128x8x1, .f32⟩
  | 17 => ⟨S128x8x1, .f32⟩
  | 18 => ⟨S128x8x1024, .f32⟩
  | 19 => ⟨S128x8x1024, .f32⟩
  | 20 => ⟨S1x1x1024, .f32⟩
  | 21 => ⟨S128x8x1024, .f32⟩
  | 22 => ⟨S128x8x1024, .f32⟩
  | 23 => ⟨S1024x8720, .f32⟩
  | 24 => ⟨S128x8x8720, .f32⟩
  | 25 => ⟨S128x8x3072, .f32⟩
  | 26 => ⟨S128x8x1024, .f32⟩
  | 27 => ⟨S128x8x8, .f32⟩
  | 28 => ⟨S128x8x8, .f32⟩
  | 29 => ⟨S128x8x512, .f32⟩
  | 30 => ⟨S128x8x512, .f32⟩
  | 31 => ⟨S128x8x512, .f32⟩
  | 32 => ⟨S128x8x3072, .f32⟩
  | 33 => ⟨S128x8x512, .f32⟩
  | 34 => ⟨S128x8x512, .f32⟩
  | 35 => ⟨S_, .f32⟩
  | 36 => ⟨S128x8x512, .f32⟩
  | 37 => ⟨S128x8x512, .f32⟩
  | 38 => ⟨S128x8x512, .f32⟩
  | 39 => ⟨S_, .f32⟩
  | 40 => ⟨S128x8x512, .f32⟩
  | 41 => ⟨S128x8x512, .f32⟩
  | 42 => ⟨S128x8x512, .f32⟩
  | 43 => ⟨S_, .f32⟩
  | 44 => ⟨S128x8x512, .f32⟩
  | 45 => ⟨S128x8x512, .f32⟩
  | 46 => ⟨S_, .f32⟩
  | 47 => ⟨S128x8x512, .f32⟩
  | 48 => ⟨S128x8x512, .f32⟩
  | 49 => ⟨S128x8x512, .f32⟩
  | 50 => ⟨S128x8x512, .f32⟩
  | 51 => ⟨S128x8x512, .f32⟩
  | 52 => ⟨S_, .f32⟩
  | 53 => ⟨S128x8x512, .f32⟩
  | 54 => ⟨S128x8x512, .f32⟩
  | 55 => ⟨S128x8x512, .f32⟩
  | 56 => ⟨S_, .f32⟩
  | 57 => ⟨S128x8x512, .f32⟩
  | 58 => ⟨S128x8x512, .f32⟩
  | 59 => ⟨S128x8x512, .f32⟩
  | 60 => ⟨S_, .f32⟩
  | 61 => ⟨S128x8x512, .f32⟩
  | 62 => ⟨S128x8x512, .f32⟩
  | 63 => ⟨S_, .f32⟩
  | 64 => ⟨S128x8x512, .f32⟩
  | 65 => ⟨S128x8x512, .f32⟩
  | 66 => ⟨S128x8x512, .f32⟩
  | 67 => ⟨S512, .f32⟩
  | 68 => ⟨S128x8x512, .f32⟩
  | 69 => ⟨S_, .f32⟩
  | 70 => ⟨S128x8, .f32⟩
  | 71 => ⟨S128x8x1, .f32⟩
  | 72 => ⟨S_, .f32⟩
  | 73 => ⟨S128x8x1, .f32⟩
  | 74 => ⟨S128x8x1, .f32⟩
  | 75 => ⟨S_, .f32⟩
  | 76 => ⟨S128x8x1, .f32⟩
  | 77 => ⟨S128x8x1, .f32⟩
  | 78 => ⟨S128x8x1, .f32⟩
  | 79 => ⟨S128x8x512, .f32⟩
  | 80 => ⟨S128x8x512, .f32⟩
  | 81 => ⟨S1x1x512, .f32⟩
  | 82 => ⟨S128x8x512, .f32⟩
  | 83 => ⟨S128x8x512, .f32⟩
  | 84 => ⟨S4x128x128, .f32⟩
  | 85 => ⟨S4x128, .f32⟩
  | 86 => ⟨S_, .i32⟩
  | 87 => ⟨S_, .f32⟩
  | 88 => ⟨S128x128x512, .f32⟩
  | 89 => ⟨S128x1x128x4x128, .f32⟩
  | 90 => ⟨S_, .i1⟩
  | 91 => ⟨S128x128, .i1⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i1⟩
  | 99 => ⟨S128x128, .i1⟩
  | 100 => ⟨S128x128, .i1⟩
  | 101 => ⟨S_, .f32⟩
  | 102 => ⟨S_, .f32⟩
  | 103 => ⟨S4x128x128, .i1⟩
  | 104 => ⟨S4x128x128, .f32⟩
  | 105 => ⟨S4x128x128, .f32⟩
  | 106 => ⟨S4x128x1x128x128, .f32⟩
  | 107 => ⟨S128x1x128x4x128, .f32⟩
  | 108 => ⟨S128x4, .f32⟩
  | 109 => ⟨S1x1x128x4x1, .f32⟩
  | 110 => ⟨S128x1x128x4x128, .f32⟩
  | 111 => ⟨S128x1x128x4x128, .f32⟩
  | 112 => ⟨S128x128x512, .f32⟩
  | 113 => ⟨S128x8x512, .f32⟩
  | 114 => ⟨S128x8x512, .f32⟩
  | 115 => ⟨S128x8x128, .f32⟩
  | 116 => ⟨S1024x3072, .f32⟩
  | 117 => ⟨S128x8x1024, .f32⟩
  | 118 => ⟨S128x8x1024, .f32⟩
  | 119 => ⟨S_, .f32⟩
  | 120 => ⟨S128x8x1024, .f32⟩
  | 121 => ⟨S128x8x1024, .f32⟩
  | 122 => ⟨S_, .f32⟩
  | 123 => ⟨S128x8x1024, .f32⟩
  | 124 => ⟨S128x8x1024, .f32⟩
  | 125 => ⟨S128x8x1024, .f32⟩
  | 126 => ⟨S128x8x1024, .bf16⟩
  | 127 => ⟨S1024x1024, .bf16⟩
  | _ => ⟨S128x8x1024, .f32⟩

abbrev hbmTy0_1 (i : Nat) : BufTy := match i % 128 with
  | 0 => ⟨S1024x128, .f32⟩
  | 1 => ⟨S128x8x512, .bf16⟩
  | 2 => ⟨S1024x512, .bf16⟩
  | 3 => ⟨S1024x512, .f32⟩
  | 4 => ⟨S1024x512, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c : Ref sig .tc := ⟨.hbm, 86, rfl⟩
abbrev main_call0_v0 : Ref sig .tc := ⟨.hbm, 87, rfl⟩
abbrev main_v66 : Ref sig .tc := ⟨.hbm, 88, rfl⟩
abbrev main_v67 : Ref sig .tc := ⟨.hbm, 89, rfl⟩
abbrev main_c_13 : Ref sig .tc := ⟨.hbm, 90, rfl⟩
abbrev main_v68 : Ref sig .tc := ⟨.hbm, 91, rfl⟩
abbrev main_call1_v0 : Ref sig .tc := ⟨.hbm, 92, rfl⟩
abbrev main_call1_c : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_c_0 : Ref sig .tc := ⟨.hbm, 98, rfl⟩
abbrev main_call1_v5 : Ref sig .tc := ⟨.hbm, 99, rfl⟩
abbrev main_v69 : Ref sig .tc := ⟨.hbm, 100, rfl⟩
abbrev main_cst_14 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩

abbrev nD : Nat := 1
abbrev τ : Topo := Topo.v7x

variable {F : FTy → Type} [FloatOps F]
-- ==== Proj.lean ====
abbrev S8x2048x1024 : Shape := ⟨3, ![8, 2048, 1024]⟩
abbrev S1x1024 : Shape := ⟨2, ![1, 1024]⟩
abbrev S1x1024x8720 : Shape := ⟨3, ![1, 1024, 8720]⟩
abbrev S1x512 : Shape := ⟨2, ![1, 512]⟩
abbrev S1x4x128x128 : Shape := ⟨4, ![1, 4, 128, 128]⟩
abbrev S1x4x128 : Shape := ⟨3, ![1, 4, 128]⟩
abbrev S1x4x3072 : Shape := ⟨3, ![1, 4, 3072]⟩
abbrev S1024x8720 : Shape := ⟨2, ![1024, 8720]⟩
abbrev S8720x1024 : Shape := ⟨2, ![8720, 1024]⟩
abbrev S16384x1024 : Shape := ⟨2, ![16384, 1024]⟩
abbrev S1024 : Shape := ⟨1, ![1024]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S4x3072 : Shape := ⟨2, ![4, 3072]⟩
abbrev S16384x3072 : Shape := ⟨2, ![16384, 3072]⟩
abbrev S16384x128 : Shape := ⟨2, ![16384, 128]⟩
abbrev S16384x512 : Shape := ⟨2, ![16384, 512]⟩
abbrev S8x8x3072 : Shape := ⟨3, ![8, 8, 3072]⟩
abbrev S512x1024 : Shape := ⟨2, ![512, 1024]⟩
abbrev S4096x1024 : Shape := ⟨2, ![4096, 1024]⟩
abbrev S1552x1024 : Shape := ⟨2, ![1552, 1024]⟩
abbrev S512x3072 : Shape := ⟨2, ![512, 3072]⟩
abbrev S512x128 : Shape := ⟨2, ![512, 128]⟩
abbrev S512x512 : Shape := ⟨2, ![512, 512]⟩
abbrev S1x8x3072 : Shape := ⟨3, ![1, 8, 3072]⟩
abbrev S8x3072 : Shape := ⟨2, ![8, 3072]⟩
abbrev S512x1 : Shape := ⟨2, ![512, 1]⟩
abbrev S8x512 : Shape := ⟨2, ![8, 512]⟩
abbrev S520x512 : Shape := ⟨2, ![520, 512]⟩
abbrev S1x8x512 : Shape := ⟨3, ![1, 8, 512]⟩
abbrev S1024x1024 : Shape := ⟨2, ![1024, 1024]⟩
abbrev S128x1024 : Shape := ⟨2, ![128, 1024]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 25
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x8720, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S1x4x3072, .f32⟩
  | .hbm, ⟨7, _⟩ => ⟨S1024x8720, .f32⟩
  | .hbm, ⟨8, _⟩ => ⟨S8720x1024, .f32⟩
  | .hbm, ⟨9, _⟩ => ⟨S8720x1024, .bf16⟩
  | .hbm, ⟨10, _⟩ => ⟨S16384x1024, .f32⟩
  | .hbm, ⟨11, _⟩ => ⟨S1024, .f32⟩
  | .hbm, ⟨12, _⟩ => ⟨S512, .f32⟩
  | .hbm, ⟨13, _⟩ => ⟨S4x128x128, .f32⟩
  | .hbm, ⟨14, _⟩ => ⟨S4x128, .f32⟩
  | .hbm, ⟨15, _⟩ => ⟨S128x4, .f32⟩
  | .hbm, ⟨16, _⟩ => ⟨S4x3072, .f32⟩
  | .hbm, ⟨17, _⟩ => ⟨S1x1024, .f32⟩
  | .hbm, ⟨18, _⟩ => ⟨S1x512, .f32⟩
  | .hbm, ⟨19, _⟩ => ⟨S16384x3072, .bf16⟩
  | .hbm, ⟨20, _⟩ => ⟨S16384x1024, .bf16⟩
  | .hbm, ⟨21, _⟩ => ⟨S16384x128, .f32⟩
  | .hbm, ⟨22, _⟩ => ⟨S16384x512, .bf16⟩
  | .hbm, ⟨23, _⟩ => ⟨S16384x512, .bf16⟩
  | .hbm, ⟨24, _⟩ => ⟨S8x8x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4096x1024, .bf16⟩
  | .local _ .vmem, ⟨4, _⟩ => ⟨S1552x1024, .bf16⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S4x3072, .f32⟩
  | .local _ .vmem, ⟨9, _⟩ => ⟨S512x3072, .bf16⟩
  | .local _ .vmem, ⟨10, _⟩ => ⟨S512x3072, .bf16⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S1x8x3072, .f32⟩
  | .local _ .vmem, ⟨20, _⟩ => ⟨S1x8x3072, .f32⟩
  | .local _ .vmem, ⟨21, _⟩ => ⟨S8x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4096_i32 : BitVec 32 := 4096#32
  let c0_i32 : BitVec 32 := 0#32
  let c0_i32_0 : BitVec 32 := 0#32
  ![c4096_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1552x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjIdeal.lean ====
variable {F : FTy → Type} [FloatOps F] [Named F]
def κ : String → Option EReal := fun
  | "neg_log2e" => some ((-((Real.log 2)⁻¹) : ℝ) : EReal)
  | _ => none
-- ==== ProjRefIdeal.lean ====
abbrev S8x2048x1024 : Shape := ⟨3, ![8, 2048, 1024]⟩
abbrev S1x1024 : Shape := ⟨2, ![1, 1024]⟩
abbrev S1x1024x8720 : Shape := ⟨3, ![1, 1024, 8720]⟩
abbrev S1x512 : Shape := ⟨2, ![1, 512]⟩
abbrev S1x4x128x128 : Shape := ⟨4, ![1, 4, 128, 128]⟩
abbrev S1x4x128 : Shape := ⟨3, ![1, 4, 128]⟩
abbrev S1x4x3072 : Shape := ⟨3, ![1, 4, 3072]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x8720 : Shape := ⟨2, ![1024, 8720]⟩
abbrev S8x2048x8720 : Shape := ⟨3, ![8, 2048, 8720]⟩
abbrev S8x2048x3072 : Shape := ⟨3, ![8, 2048, 3072]⟩
abbrev S8x2048x8 : Shape := ⟨3, ![8, 2048, 8]⟩
abbrev S8x2048x512 : Shape := ⟨3, ![8, 2048, 512]⟩
abbrev S8x3x3072 : Shape := ⟨3, ![8, 3, 3072]⟩
abbrev S4x3072 : Shape := ⟨2, ![4, 3072]⟩
abbrev S8x2051x3072 : Shape := ⟨3, ![8, 2051, 3072]⟩
abbrev S1x3072 : Shape := ⟨2, ![1, 3072]⟩
abbrev S3072 : Shape := ⟨1, ![3072]⟩
abbrev S1x1x3072 : Shape := ⟨3, ![1, 1, 3072]⟩
abbrev S8x2048x8x128 : Shape := ⟨4, ![8, 2048, 8, 128]⟩
abbrev S8x2048x8x1 : Shape := ⟨4, ![8, 2048, 8, 1]⟩
abbrev S512 : Shape := ⟨1, ![512]⟩
abbrev S1x1x512 : Shape := ⟨3, ![1, 1, 512]⟩
abbrev S4x128x128 : Shape := ⟨3, ![4, 128, 128]⟩
abbrev S4x128 : Shape := ⟨2, ![4, 128]⟩
abbrev S8x16x128x4x128 : Shape := ⟨5, ![8, 16, 128, 4, 128]⟩
abbrev S128x128 : Shape := ⟨2, ![128, 128]⟩
abbrev S4x8x16x128x128 : Shape := ⟨5, ![4, 8, 16, 128, 128]⟩
abbrev S128x4 : Shape := ⟨2, ![128, 4]⟩
abbrev S1x1x128x4x1 : Shape := ⟨5, ![1, 1, 128, 4, 1]⟩
abbrev S8x2048x128 : Shape := ⟨3, ![8, 2048, 128]⟩
abbrev S16384x1024 : Shape := ⟨2, ![16384, 1024]⟩
abbrev S16384x3072 : Shape := ⟨2, ![16384, 3072]⟩
abbrev S16384x128 : Shape := ⟨2, ![16384, 128]⟩
abbrev S16384x512 : Shape := ⟨2, ![16384, 512]⟩
abbrev S8x8x3072 : Shape := ⟨3, ![8, 8, 3072]⟩

abbrev nBuf : Space → Nat
  | .hbm => 206
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x8720, .f32⟩
  | 3 => ⟨S1x512, .f32⟩
  | 4 => ⟨S1x4x128x128, .f32⟩
  | 5 => ⟨S1x4x128, .f32⟩
  | 6 => ⟨S1x4x3072, .f32⟩
  | 7 => ⟨S1024, .f32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S1024x8720, .f32⟩
  | 25 => ⟨S8x2048x8720, .f32⟩
  | 26 => ⟨S8x2048x3072, .f32⟩
  | 27 => ⟨S8x2048x1024, .f32⟩
  | 28 => ⟨S8x2048x8, .f32⟩
  | 29 => ⟨S8x2048x8, .f32⟩
  | 30 => ⟨S8x2048x512, .f32⟩
  | 31 => ⟨S8x2048x512, .f32⟩
  | 32 => ⟨S8x2048x512, .f32⟩
  | 33 => ⟨S8x2048x3072, .f32⟩
  | 34 => ⟨S_, .f32⟩
  | 35 => ⟨S8x3x3072, .f32⟩
  | 36 => ⟨S4x3072, .f32⟩
  | 37 => ⟨S8x2051x3072, .f32⟩
  | 38 => ⟨S8x2048x3072, .f32⟩
  | 39 => ⟨S1x3072, .f32⟩
  | 40 => ⟨S3072, .f32⟩
  | 41 => ⟨S1x1x3072, .f32⟩
  | 42 => ⟨S8x2048x3072, .f32⟩
  | 43 => ⟨S8x2048x3072, .f32⟩
  | 44 => ⟨S8x2048x3072, .f32⟩
  | 45 => ⟨S1x3072, .f32⟩
  | 46 => ⟨S3072, .f32⟩
  | 47 => ⟨S1x1x3072, .f32⟩
  | 48 => ⟨S8x2048x3072, .f32⟩
  | 49 => ⟨S8x2048x3072, .f32⟩
  | 50 => ⟨S8x2048x3072, .f32⟩
  | 51 => ⟨S8x2048x3072, .f32⟩
  | 52 => ⟨S1x3072, .f32⟩
  | 53 => ⟨S3072, .f32⟩
  | 54 => ⟨S1x1x3072, .f32⟩
  | 55 => ⟨S8x2048x3072, .f32⟩
  | 56 => ⟨S8x2048x3072, .f32⟩
  | 57 => ⟨S8x2048x3072, .f32⟩
  | 58 => ⟨S8x2048x3072, .f32⟩
  | 59 => ⟨S1x3072, .f32⟩
  | 60 => ⟨S3072, .f32⟩
  | 61 => ⟨S1x1x3072, .f32⟩
  | 62 => ⟨S8x2048x3072, .f32⟩
  | 63 => ⟨S8x2048x3072, .f32⟩
  | 64 => ⟨S8x2048x3072, .f32⟩
  | 65 => ⟨S8x2048x3072, .f32⟩
  | 66 => ⟨S8x2048x3072, .f32⟩
  | 67 => ⟨S_, .f32⟩
  | 68 => ⟨S8x2048x3072, .f32⟩
  | 69 => ⟨S8x2048x3072, .f32⟩
  | 70 => ⟨S_, .f32⟩
  | 71 => ⟨S8x2048x3072, .f32⟩
  | 72 => ⟨S8x2048x3072, .f32⟩
  | 73 => ⟨S8x2048x3072, .f32⟩
  | 74 => ⟨S8x2048x1024, .f32⟩
  | 75 => ⟨S8x2048x1024, .f32⟩
  | 76 => ⟨S8x2048x1024, .f32⟩
  | 77 => ⟨S8x2048x8x128, .f32⟩
  | 78 => ⟨S8x2048x8x128, .f32⟩
  | 79 => ⟨S_, .f32⟩
  | 80 => ⟨S8x2048x8, .f32⟩
  | 81 => ⟨S8x2048x8x1, .f32⟩
  | 82 => ⟨S_, .f32⟩
  | 83 => ⟨S8x2048x8x1, .f32⟩
  | 84 => ⟨S8x2048x8x1, .f32⟩
  | 85 => ⟨S8x2048x8x1, .f32⟩
  | 86 => ⟨S8x2048x8x128, .f32⟩
  | 87 => ⟨S8x2048x8x128, .f32⟩
  | 88 => ⟨S_, .f32⟩
  | 89 => ⟨S8x2048x8x128, .f32⟩
  | 90 => ⟨S8x2048x8x128, .f32⟩
  | 91 => ⟨S8x2048x8x128, .f32⟩
  | 92 => ⟨S8x2048x8x128, .f32⟩
  | 93 => ⟨S_, .f32⟩
  | 94 => ⟨S8x2048x8, .f32⟩
  | 95 => ⟨S8x2048x8x1, .f32⟩
  | 96 => ⟨S_, .f32⟩
  | 97 => ⟨S8x2048x8x1, .f32⟩
  | 98 => ⟨S8x2048x8x1, .f32⟩
  | 99 => ⟨S8x2048x8x1, .f32⟩
  | 100 => ⟨S8x2048x8x128, .f32⟩
  | 101 => ⟨S8x2048x8x128, .f32⟩
  | 102 => ⟨S8x2048x512, .f32⟩
  | 103 => ⟨S8x2048x512, .f32⟩
  | 104 => ⟨S_, .f32⟩
  | 105 => ⟨S8x2048x512, .f32⟩
  | 106 => ⟨S8x2048x512, .f32⟩
  | 107 => ⟨S8x2048x512, .f32⟩
  | 108 => ⟨S_, .f32⟩
  | 109 => ⟨S8x2048x512, .f32⟩
  | 110 => ⟨S8x2048x512, .f32⟩
  | 111 => ⟨S8x2048x512, .f32⟩
  | 112 => ⟨S_, .f32⟩
  | 113 => ⟨S8x2048x512, .f32⟩
  | 114 => ⟨S8x2048x512, .f32⟩
  | 115 => ⟨S_, .f32⟩
  | 116 => ⟨S8x2048x512, .f32⟩
  | 117 => ⟨S8x2048x512, .f32⟩
  | 118 => ⟨S8x2048x512, .f32⟩
  | 119 => ⟨S8x2048x512, .f32⟩
  | 120 => ⟨S8x2048x512, .f32⟩
  | 121 => ⟨S_, .f32⟩
  | 122 => ⟨S8x2048x512, .f32⟩
  | 123 => ⟨S8x2048x512, .f32⟩
  | 124 => ⟨S8x2048x512, .f32⟩
  | 125 => ⟨S_, .f32⟩
  | 126 => ⟨S8x2048x512, .f32⟩
  | 127 => ⟨S8x2048x512, .f32⟩
  | _ => ⟨S8x2048x1024, .f32⟩

abbrev hbmTy0_1 (i : Nat) : BufTy := match i % 128 with
  | 0 => ⟨S8x2048x512, .f32⟩
  | 1 => ⟨S_, .f32⟩
  | 2 => ⟨S8x2048x512, .f32⟩
  | 3 => ⟨S8x2048x512, .f32⟩
  | 4 => ⟨S_, .f32⟩
  | 5 => ⟨S8x2048x512, .f32⟩
  | 6 => ⟨S8x2048x512, .f32⟩
  | 7 => ⟨S8x2048x512, .f32⟩
  | 8 => ⟨S512, .f32⟩
  | 9 => ⟨S8x2048x512, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x512, .f32⟩
  | 21 => ⟨S8x2048x512, .f32⟩
  | 22 => ⟨S1x1x512, .f32⟩
  | 23 => ⟨S8x2048x512, .f32⟩
  | 24 => ⟨S8x2048x512, .f32⟩
  | 25 => ⟨S4x128x128, .f32⟩
  | 26 => ⟨S4x128, .f32⟩
  | 27 => ⟨S_, .i32⟩
  | 28 => ⟨S_, .f32⟩
  | 29 => ⟨S8x2048x512, .f32⟩
  | 30 => ⟨S8x16x128x4x128, .f32⟩
  | 31 => ⟨S_, .i1⟩
  | 32 => ⟨S128x128, .i1⟩
  | 33 => ⟨S128x128, .i32⟩
  | 34 => ⟨S_, .i32⟩
  | 35 => ⟨S128x128, .i32⟩
  | 36 => ⟨S128x128, .i32⟩
  | 37 => ⟨S128x128, .i32⟩
  | 38 => ⟨S128x128, .i1⟩
  | 39 => ⟨S_, .i1⟩
  | 40 => ⟨S128x128, .i1⟩
  | 41 => ⟨S128x128, .i1⟩
  | 42 => ⟨S_, .f32⟩
  | 43 => ⟨S_, .f32⟩
  | 44 => ⟨S4x128x128, .i1⟩
  | 45 => ⟨S4x128x128, .f32⟩
  | 46 => ⟨S4x128x128, .f32⟩
  | 47 => ⟨S4x8x16x128x128, .f32⟩
  | 48 => ⟨S8x16x128x4x128, .f32⟩
  | 49 => ⟨S128x4, .f32⟩
  | 50 => ⟨S1x1x128x4x1, .f32⟩
  | 51 => ⟨S8x16x128x4x128, .f32⟩
  | 52 => ⟨S8x16x128x4x128, .f32⟩
  | 53 => ⟨S8x2048x512, .f32⟩
  | 54 => ⟨S8x2048x512, .f32⟩
  | 55 => ⟨S8x2048x128, .f32⟩
  | 56 => ⟨S16384x1024, .f32⟩
  | 57 => ⟨S16384x1024, .f32⟩
  | 58 => ⟨S16384x1024, .f32⟩
  | 59 => ⟨S16384x3072, .f32⟩
  | 60 => ⟨S16384x3072, .bf16⟩
  | 61 => ⟨S8x2048x1024, .f32⟩
  | 62 => ⟨S8x2048x1024, .f32⟩
  | 63 => ⟨S_, .f32⟩
  | 64 => ⟨S8x2048x1024, .f32⟩
  | 65 => ⟨S8x2048x1024, .f32⟩
  | 66 => ⟨S_, .f32⟩
  | 67 => ⟨S8x2048x1024, .f32⟩
  | 68 => ⟨S8x2048x1024, .f32⟩
  | 69 => ⟨S8x2048x1024, .f32⟩
  | 70 => ⟨S8x2048x1024, .bf16⟩
  | 71 => ⟨S16384x1024, .bf16⟩
  | 72 => ⟨S16384x128, .f32⟩
  | 73 => ⟨S8x2048x512, .bf16⟩
  | 74 => ⟨S16384x512, .bf16⟩
  | 75 => ⟨S8x2048x512, .bf16⟩
  | 76 => ⟨S16384x512, .bf16⟩
  | 77 => ⟨S8x8x3072, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_3 : Ref sig .tc := ⟨.hbm, 79, rfl⟩
abbrev main_v60 : Ref sig .tc := ⟨.hbm, 80, rfl⟩
abbrev main_v61 : Ref sig .tc := ⟨.hbm, 81, rfl⟩
abbrev main_cst_4 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_6 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_8 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_9 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_10 : Ref sig .tc := ⟨.hbm, 112, rfl⟩
abbrev main_v86 : Ref sig .tc := ⟨.hbm, 113, rfl⟩
abbrev main_v87 : Ref sig .tc := ⟨.hbm, 114, rfl⟩
abbrev main_cst_11 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_12 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_13 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_14 : Ref sig .tc := ⟨.hbm, 129, rfl⟩
abbrev main_v99 : Ref sig .tc := ⟨.hbm, 130, rfl⟩
abbrev main_v100 : Ref sig .tc := ⟨.hbm, 131, rfl⟩
abbrev main_cst_15 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_16 : Ref sig .tc := ⟨.hbm, 138, rfl⟩
abbrev main_v106 : Ref sig .tc := ⟨.hbm, 139, rfl⟩
abbrev main_v107 : Ref sig .tc := ⟨.hbm, 140, rfl⟩
abbrev main_cst_17 : Ref sig .tc := ⟨.hbm, 141, rfl⟩
abbrev main_v108 : Ref sig .tc := ⟨.hbm, 142, rfl⟩
abbrev main_v109 : Ref sig .tc := ⟨.hbm, 143, rfl⟩
abbrev main_cst_18 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c : Ref sig .tc := ⟨.hbm, 155, rfl⟩
abbrev main_call1_v0 : Ref sig .tc := ⟨.hbm, 156, rfl⟩
abbrev main_v120 : Ref sig .tc := ⟨.hbm, 157, rfl⟩
abbrev main_v121 : Ref sig .tc := ⟨.hbm, 158, rfl⟩
abbrev main_c_19 : Ref sig .tc := ⟨.hbm, 159, rfl⟩
abbrev main_v122 : Ref sig .tc := ⟨.hbm, 160, rfl⟩
abbrev main_call2_v0 : Ref sig .tc := ⟨.hbm, 161, rfl⟩
abbrev main_call2_c : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_c_0 : Ref sig .tc := ⟨.hbm, 167, rfl⟩
abbrev main_call2_v5 : Ref sig .tc := ⟨.hbm, 168, rfl⟩
abbrev main_v123 : Ref sig .tc := ⟨.hbm, 169, rfl⟩
abbrev main_cst_20 : Ref sig .tc := ⟨.hbm, 170, rfl⟩
abbrev main_call3_v0 : Ref sig .tc := ⟨.hbm, 171, rfl⟩
abbrev main_call3_v1 : Ref sig .tc := ⟨.hbm, 172, rfl⟩
abbrev main_call3_v2 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_call4_v0 : Ref sig .tc := ⟨.hbm, 189, rfl⟩
abbrev main_call4_v1 : Ref sig .tc := ⟨.hbm, 190, rfl⟩
abbrev main_call4_cst : Ref sig .tc := ⟨.hbm, 191, rfl⟩
abbrev main_call4_v2 : Ref sig .tc := ⟨.hbm, 192, rfl⟩
abbrev main_call4_v3 : Ref sig .tc := ⟨.hbm, 193, rfl⟩
abbrev main_call4_cst_0 : Ref sig .tc := ⟨.hbm, 194, rfl⟩
abbrev main_call4_v4 : Ref sig .tc := ⟨.hbm, 195, rfl⟩
abbrev main_call4_v5 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩

abbrev nD : Nat := 1
abbrev τ : Topo := Topo.v7x

variable {F : FTy → Type} [FloatOps F]
-- ==== Proof.Math.lean ====
/- The facts of extended-real arithmetic that the value proofs share: the logistic function computed through a
   power of two, and the softmax average with its division taken before or after the sum. -/
module

public import Idealize.ShloMosaic.Lib.Pointwise
public import Idealize.ShloMosaic.PureOps.Ideal.Laws

@[expose] public section

noncomputable section

namespace Cert.Math

open Idealize.ShloMosaic

/-- The logistic function, as the reference spells it. -/
def sig (z : EReal) : EReal := Ideal.div 1 (1 + Ideal.exp (-z))

/-- Two to the power `z · (-1 / log 2)` is `e` to the power `-z`, at the infinities as well. -/
theorem exp2_scaled (z : EReal) : Ideal.exp2 (z * ((-((Real.log 2)⁻¹) : ℝ) : EReal)) = Ideal.exp (-z) := by
  have hlog : 0 < Real.log 2 := Real.log_pos (by norm_num)
  have hneg : (-((Real.log 2)⁻¹) : ℝ) < 0 := by
    have := inv_pos.mpr hlog
    linarith
  induction z with
  | bot => rw [EReal.bot_mul_coe_of_neg hneg]; simp
  | top => rw [EReal.top_mul_coe_of_neg hneg]; simp
  | coe r =>
    rw [← EReal.coe_mul, ← EReal.coe_neg, Ideal.exp2_coe, Ideal.exp_coe]
    congr 1
    show (2 : ℝ) ^ (r * -((Real.log 2)⁻¹)) = _
    rw [Real.rpow_def_of_pos (by norm_num)]
    congr 1
    field_simp

/-- A nonnegative real factor moves into a finite sum, whatever the terms. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm,
      EReal.left_distrib_of_nonneg_of_ne_top (by exact_mod_cast hr) (EReal.coe_ne_top r), mul_comm, mul_comm (r : EReal)]

/-- A value is finite when it is a real number. -/
def IsReal (z : EReal) : Prop := ∃ r : ℝ, z = r

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_add {x y : EReal} (hx : IsReal x) (hy : IsReal y) : IsReal (x + y) := by
  obtain ⟨a, rfl⟩ := hx
  obtain ⟨b, rfl⟩ := hy
  exact ⟨a + b, (EReal.coe_add a b).symm⟩

theorem real_sum {ι : Type} (s : Finset ι) (f : ι → EReal) (hf : ∀ i, IsReal (f i)) : IsReal (∑ i ∈ s, f i) := by
  classical
  induction s using Finset.induction_on with
  | empty => exact ⟨0, by simp⟩
  | insert a s ha ih => rw [Finset.sum_insert ha]; exact real_add (hf a) ih

/-- A sum of reals, taken among the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, and of `-∞`, is a real as soon as there is one. -/
theorem real_fold {n : ℕ} (f : Fin (n + 1) → EReal) (hf : ∀ i, IsReal (f i)) :
    IsReal (Finset.univ.fold max ⊥ f) := by
  have key : ∀ s : Finset (Fin (n + 1)), s.Nonempty → IsReal (s.fold max ⊥ f) := by
    intro s hs
    induction hs using Finset.Nonempty.cons_induction with
    | singleton a => simpa using hf a
    | cons a s ha hs ih =>
      rw [Finset.fold_cons]
      rcases max_choice (f a) (s.fold max ⊥ f) with h | h <;> rw [h]
      · exact hf a
      · exact ih
  exact key _ ⟨0, Finset.mem_univ 0⟩

/-- The scale of the scores is a real number. -/
theorem scale_real : IsReal (Ideal.ofBits .f32 0x3DB504F3#32) := by
  simp only [IsReal, Ideal.ofBits, Ideal.ieee]
  rw [if_neg (by decide), if_neg (by decide)]
  exact ⟨_, rfl⟩

/-- The word of `-∞`, at which the kernel and the reference start a maximum. -/
theorem ninf : Ideal.ofBits .f32 0xFF800000#32 = ⊥ := by
  simp [Ideal.ofBits, Ideal.ieee]

/-- The largest of the scores. -/
def top {n : ℕ} (s : Fin n → EReal) : EReal := Finset.univ.fold max (Ideal.ofBits .f32 0xFF800000#32) s

/-- The softmax weights' numerators: the exponentials of the scores less the largest score. -/
def num {n : ℕ} (s : Fin n → EReal) (k : Fin n) : EReal := Ideal.exp (s k - top s)

/-- The weighted average the softmax takes of `v`, each weight divided before it is used. -/
def soft {n : ℕ} (s v : Fin n → EReal) : EReal :=
  ∑ k, v k * Ideal.div (num s k) (∑ k', num s k')

/-- The same average with the division taken once, after the sum. -/
def softLate {n : ℕ} (s v : Fin n → EReal) : EReal :=
  Ideal.div (∑ k, num s k * v k) (∑ k, num s k)

/-- With finite scores the two averages agree. -/
theorem soft_late {n : ℕ} (s v : Fin (n + 1) → EReal) (hs : ∀ k, IsReal (s k)) : softLate s v = soft s v := by
  obtain ⟨M, hM⟩ := real_fold s hs
  choose r hr using hs
  have hnum : ∀ k, num s k = (Real.exp (r k - M) : EReal) := fun k => by
    rw [num, top, ninf, hM, hr k, ← EReal.coe_sub, Ideal.exp_coe]
  have hsum : (∑ k, num s k) = ((∑ k, Real.exp (r k - M) : ℝ) : EReal) := by
    rw [coe_sum]
    exact Finset.sum_congr rfl fun k _ => hnum k
  have hpos : 0 < ∑ k, Real.exp (r k - M) :=
    Finset.sum_pos (fun k _ => Real.exp_pos _) ⟨0, Finset.mem_univ 0⟩
  unfold softLate soft
  rw [hsum, Ideal.div_coe hpos.ne', sum_mul_real _ _ _ (one_div_pos.mpr hpos).le]
  refine Finset.sum_congr rfl fun k _ => ?_
  rw [Ideal.div_coe hpos.ne', mul_comm (num s k), mul_assoc]

/-- A row divided by its root mean square, `n` words long, times a gain. -/
def rms {n : ℕ} (c e : EReal) (x g : Fin n → EReal) (k : Fin n) : EReal :=
  x k * Ideal.rsqrt (Ideal.div (∑ j, x j * x j) c + e) * g k

end Cert.Math

end
-- ==== Proof.MergeMath.lean ====
/- What one row of the merge computes, as a function of the row and of the weights, and one head of the memory
   attention before it. The kernel's blocks and the reference's arrays are both read as these functions. -/
module

public import proofs.«01_k».proof.Proof.Math

@[expose] public section

noncomputable section

namespace Cert.Math

open Idealize.ShloMosaic

/-- A row of 1024 words divided by its root mean square, times the gain. -/
def rms1024 (x g : Fin 1024 → EReal) : Fin 1024 → EReal :=
  rms (Ideal.ofBits .f32 0x44800000#32) (Ideal.ofBits .f32 0x358637BD#32) x g

/-- The sum of the products of a row and a column. -/
def dot {n : ℕ} (a b : Fin n → EReal) : EReal := ∑ k, a k * b k

/-- Word `d` of head `h` in a row of four heads of 128 words. -/
abbrev head (h : Fin 4) (d : Fin 128) : Fin 512 := ⟨128 * h.val + d.val, by omega⟩

/-- The scores of one head: a query against 256 keys, times the scale. -/
def scores (q : Fin 512 → EReal) (K : Fin 256 → Fin 512 → EReal) (h : Fin 4) (m : Fin 256) : EReal :=
  dot (fun d : Fin 128 => q (head h d)) (fun d => K m (head h d)) * Ideal.ofBits .f32 0x3DB504F3#32

/-- The four heads' averages side by side, the division taken last, as the kernel does. -/
def attLate (q : Fin 512 → EReal) (K V : Fin 256 → Fin 512 → EReal) (i : Fin 512) : EReal :=
  softLate (scores q K ⟨i.val / 128, by omega⟩) fun m => V m i

/-- The four heads' averages side by side, as the reference takes them. -/
def att (q : Fin 512 → EReal) (K V : Fin 256 → Fin 512 → EReal) (i : Fin 512) : EReal :=
  soft (scores q K ⟨i.val / 128, by omega⟩) fun m => V m i

theorem scores_real {q : Fin 512 → EReal} {K : Fin 256 → Fin 512 → EReal} (hq : ∀ i, IsReal (q i))
    (hK : ∀ m i, IsReal (K m i)) (hc : IsReal (Ideal.ofBits .f32 0x3DB504F3#32)) (h : Fin 4) (m : Fin 256) :
    IsReal (scores q K h m) :=
  real_mul (real_sum _ _ fun _ => real_mul (hq _) (hK _ _)) hc

/-- Queries and keys being finite, the two agree. -/
theorem attLate_eq {q : Fin 512 → EReal} {K : Fin 256 → Fin 512 → EReal} (V : Fin 256 → Fin 512 → EReal)
    (hq : ∀ i, IsReal (q i)) (hK : ∀ m i, IsReal (K m i)) : attLate q K V = att q K V :=
  funext fun _ => soft_late _ _ fun m => scores_real hq hK scale_real _ m

/-- The sum of the three gated branches at word `j`: each branch's product with its weights, times the logistic
    function of its gate. The gates' weights are the rows of `wg`, 1024 for each branch. -/
def merged (xn : Fin 1024 → EReal) (odn : Fin 1024 → EReal) (osg omem : Fin 512 → EReal)
    (wg : Fin 3072 → Fin 1024 → EReal) (wdn : Fin 1024 → Fin 1024 → EReal) (wsg wmem : Fin 512 → Fin 1024 → EReal)
    (j : Fin 1024) : EReal :=
  sig (dot xn (wg ⟨j.val, by omega⟩)) * dot odn (fun i => wdn i j)
    + sig (dot xn (wg ⟨1024 + j.val, by omega⟩)) * dot osg (fun i => wsg i j)
    + sig (dot xn (wg ⟨2048 + j.val, by omega⟩)) * dot omem (fun i => wmem i j)

/-- The merge's row: the input plus the merged branches' product with the output weights. -/
def mergeRow (x g : Fin 1024 → EReal) (odn : Fin 1024 → EReal) (osg omem : Fin 512 → EReal)
    (wg : Fin 3072 → Fin 1024 → EReal) (wdn : Fin 1024 → Fin 1024 → EReal) (wsg wmem : Fin 512 → Fin 1024 → EReal)
    (wo : Fin 1024 → Fin 1024 → EReal) (l : Fin 1024) : EReal :=
  x l + dot (merged (rms1024 x g) odn osg omem wg wdn wsg wmem) (fun j => wo j l)

end Cert.Math

end
-- ==== Proof.MergePay.lean ====
/- The merge kernel's body, read at one word of the block it stores: the word is `mergeRow` of the body's row. -/
module

public import proofs.«01_k».proof.Proof.MergeMath
public import proofs.«01_k».proof.Proof.Gen.MergeIdeal.Frame
public import Idealize.ShloMosaic.Lib.Pipeline.ValueKit
public import Idealize.ShloMosaic.PureOps.IdealRules

@[expose] public section

set_option maxRecDepth 16384

noncomputable section

namespace Cert.MergePay

open Idealize.ShloMosaic Idealize.ShloMosaic.TcCoe Cert.MergeIdeal Cert.MergeIdeal.Gen Cert.Math

/-- The kernel's logistic function, through a power of two. -/
theorem gate (z : EReal) :
    Ideal.div 1 (1 + (FloatOps.exp2 (F := Ideal) (φ := .f32) (z * Named.named (F := Ideal) κ "neg_log2e" (φ := .f32) 0xBFB8AA3B#32) : EReal)) = sig z := by
  rw [IdealRules.named_const.ideal_named_scalar _ _ _ _ rfl]
  exact congrArg (fun y => Ideal.div 1 (1 + y)) (exp2_scaled z)

theorem xn_at (x : FVec Ideal S512x1024 .f32) (g : FVec Ideal S1x1024 .f32) (r : Fin 512) (k : Fin 1024) :
    k0_pay13 (F := Ideal) x g (ix2 r k) = rms1024 (fun j => x (ix2 r j)) (fun j => g (ix2 0 j)) k := by
  pointwise [k0_pay13, k0_pay12]
  rfl

/-- One head: the kernel's text for it, over the head's columns of the queries, the keys and the values. -/
theorem head0_at (q : FVec Ideal S512x128 .bf16) (K V : FVec Ideal S1x256x128 .f32) (r : Fin 512) (d : Fin 128) :
    k0_pay2 (F := Ideal) q K V (ix2 r d)
      = softLate (fun m => dot (fun e => q (ix2 r e)) (fun e => K (ix3 0 m e)) * Ideal.ofBits .f32 0x3DB504F3#32)
          fun m => V (ix3 0 m d) := by
  pointwise [k0_pay2]
  rfl

theorem head1_at (q : FVec Ideal S512x128 .bf16) (K V : FVec Ideal S1x256x128 .f32) (r : Fin 512) (d : Fin 128) :
    k0_pay6 (F := Ideal) (k0_pay3 V) (k0_pay4 q K) (k0_pay5 q K) (ix2 r d)
      = softLate (fun m => dot (fun e => q (ix2 r e)) (fun e => K (ix3 0 m e)) * Ideal.ofBits .f32 0x3DB504F3#32)
          fun m => V (ix3 0 m d) := by
  pointwise [k0_pay3, k0_pay4, k0_pay5, k0_pay6]
  rfl

theorem head2_at (q : FVec Ideal S512x128 .bf16) (K V : FVec Ideal S1x256x128 .f32) (r : Fin 512) (d : Fin 128) :
    k0_pay7 (F := Ideal) q K V (ix2 r d) = k0_pay2 (F := Ideal) q K V (ix2 r d) := rfl

/-- The four heads side by side, of which the last is computed where they are joined. -/
theorem heads_at (a b c : FVec Ideal S512x128 .f32) (q : FVec Ideal S512x128 .bf16) (K V : FVec Ideal S1x256x128 .f32)
    (r : Fin 512) (i : Fin 512) :
    k0_pay11 (F := Ideal) a b c (k0_pay8 q) (k0_pay9 K) (k0_pay10 V) (ix2 r i)
      = if h : i.val < 128 then a (ix2 r ⟨i.val, h⟩)
        else if h : i.val - 128 < 128 then b (ix2 r ⟨i.val - 128, h⟩)
        else if h : i.val - 128 - 128 < 128 then c (ix2 r ⟨i.val - 128 - 128, h⟩)
        else k0_pay2 (F := Ideal) q K V (ix2 r ⟨i.val - 128 - 128 - 128, by omega⟩) := by
  simp only [head0_at]
  pointwise [k0_pay8, k0_pay9, k0_pay10, k0_pay11]
  rfl

theorem gated_at (xn z : FVec Ideal S512x1024 .bf16) (u : FVec Ideal S512x512 .bf16) (p : FVec Ideal S512x1024 .f32)
    (wz wg : FVec Ideal S1024x1024 .bf16) (wu : FVec Ideal S512x1024 .bf16) (r : Fin 512) (l : Fin 1024) :
    k0_pay17 (F := Ideal) xn z u p wz wg wu (ix2 r l)
      = sig (p (ix2 r l)) * dot (fun i => z (ix2 r i)) (fun i => wz (ix2 i l))
        + sig (dot (fun k => xn (ix2 r k)) (fun k => wg (ix2 l k))) * dot (fun i => u (ix2 r i)) (fun i => wu (ix2 i l)) := by
  pointwise [k0_pay17]
  simp only [gate]
  rfl

theorem gate_at (xn : FVec Ideal S512x1024 .bf16) (wg : FVec Ideal S1024x1024 .bf16) (r : Fin 512) (l : Fin 1024) :
    k0_pay18 (F := Ideal) xn wg (ix2 r l) = sig (dot (fun k => xn (ix2 r k)) (fun k => wg (ix2 l k))) := by
  pointwise [k0_pay18]
  simp only [gate]
  rfl

theorem stored_at (omem : FVec Ideal S512x512 .f32) (x a g : FVec Ideal S512x1024 .f32) (wm : FVec Ideal S512x1024 .bf16)
    (wo : FVec Ideal S1024x1024 .bf16) (r : Fin 512) (l : Fin 1024) :
    k0_pay1 (F := Ideal) omem x a g wm wo (ix2 r l)
      = x (ix2 r l) + dot (fun j => a (ix2 r j) + g (ix2 r j) * dot (fun i => omem (ix2 r i)) (fun i => wm (ix2 i j)))
          (fun j => wo (ix2 j l)) := by
  pointwise [k0_pay1]
  rfl

/-- A head's average, over columns given apart, is the average of head `h` of rows of four heads. -/
theorem late_of {q : Fin 512 → EReal} {K V : Fin 256 → Fin 512 → EReal} {q' : Fin 128 → EReal}
    {K' V' : Fin 256 → Fin 128 → EReal} (h : Fin 4) (i : Fin 512) (d : Fin 128) (hi : i.val = 128 * h.val + d.val)
    (hq : ∀ e, q' e = q (head h e)) (hK : ∀ m e, K' m e = K m (head h e)) (hV : ∀ m e, V' m e = V m (head h e)) :
    softLate (fun m => dot q' (K' m) * Ideal.ofBits .f32 0x3DB504F3#32) (fun m => V' m d) = attLate q K V i := by
  have h4 : (⟨i.val / 128, by omega⟩ : Fin 4) = h := Fin.ext (by show i.val / 128 = h.val; omega)
  have hd : head h d = i := Fin.ext hi.symm
  unfold attLate
  rw [h4]
  simp only [hV, hd, funext hq, fun m => funext (hK m)]
  rfl

/-- The four heads, each over its columns, are the attention of rows of four heads. -/
theorem att_of {q : Fin 512 → EReal} {K V : Fin 256 → Fin 512 → EReal} {q0 q1 q2 q3 : FVec Ideal S512x128 .bf16}
    {K0 K1 K2 K3 V0 V1 V2 V3 : FVec Ideal S1x256x128 .f32} (r i : Fin 512)
    (hq0 : ∀ e, q0 (ix2 r e) = q (head 0 e)) (hK0 : ∀ m e, K0 (ix3 0 m e) = K m (head 0 e))
    (hV0 : ∀ m e, V0 (ix3 0 m e) = V m (head 0 e))
    (hq1 : ∀ e, q1 (ix2 r e) = q (head 1 e)) (hK1 : ∀ m e, K1 (ix3 0 m e) = K m (head 1 e))
    (hV1 : ∀ m e, V1 (ix3 0 m e) = V m (head 1 e))
    (hq2 : ∀ e, q2 (ix2 r e) = q (head 2 e)) (hK2 : ∀ m e, K2 (ix3 0 m e) = K m (head 2 e))
    (hV2 : ∀ m e, V2 (ix3 0 m e) = V m (head 2 e))
    (hq3 : ∀ e, q3 (ix2 r e) = q (head 3 e)) (hK3 : ∀ m e, K3 (ix3 0 m e) = K m (head 3 e))
    (hV3 : ∀ m e, V3 (ix3 0 m e) = V m (head 3 e)) :
    k0_pay11 (F := Ideal) (k0_pay2 q0 K0 V0) (k0_pay6 (k0_pay3 V1) (k0_pay4 q1 K1) (k0_pay5 q1 K1)) (k0_pay7 q2 K2 V2)
        (k0_pay8 q3) (k0_pay9 K3) (k0_pay10 V3) (ix2 r i) = attLate q K V i := by
  rw [heads_at]
  by_cases h0 : i.val < 128
  · rw [dif_pos h0, head0_at]
    exact late_of (q' := fun e => q0 (ix2 r e)) (K' := fun m e => K0 (ix3 0 m e)) (V' := fun m e => V0 (ix3 0 m e))
      0 i ⟨i.val, h0⟩ (by simp) hq0 hK0 hV0
  rw [dif_neg h0]
  by_cases h1 : i.val - 128 < 128
  · rw [dif_pos h1, head1_at]
    exact late_of (q' := fun e => q1 (ix2 r e)) (K' := fun m e => K1 (ix3 0 m e)) (V' := fun m e => V1 (ix3 0 m e))
      1 i ⟨i.val - 128, h1⟩ (by simp; omega) hq1 hK1 hV1
  rw [dif_neg h1]
  by_cases h2 : i.val - 128 - 128 < 128
  · rw [dif_pos h2, head2_at, head0_at]
    exact late_of (q' := fun e => q2 (ix2 r e)) (K' := fun m e => K2 (ix3 0 m e)) (V' := fun m e => V2 (ix3 0 m e))
      2 i ⟨i.val - 128 - 128, h2⟩ (by simp; omega) hq2 hK2 hV2
  rw [dif_neg h2]
  rw [head0_at]
  exact late_of (q' := fun e => q3 (ix2 r e)) (K' := fun m e => K3 (ix3 0 m e)) (V' := fun m e => V3 (ix3 0 m e))
    3 i ⟨i.val - 128 - 128 - 128, by omega⟩ (by simp; omega) hq3 hK3 hV3

theorem att_at (q : FVec Ideal S512x512 .bf16) (K V : FVec Ideal S1x256x512 .f32) (r i : Fin 512) :
    k0_pay11 (F := Ideal) (k0_pay2 (View.ld q r0_0) (View.ld K r0_1) (View.ld V r0_1))
        (k0_pay6 (k0_pay3 (View.ld V r0_3)) (k0_pay4 (View.ld q r0_2) (View.ld K r0_3)) (k0_pay5 (View.ld q r0_2) (View.ld K r0_3)))
        (k0_pay7 (View.ld q r0_4) (View.ld K r0_5) (View.ld V r0_5)) (k0_pay8 (View.ld q r0_6))
        (k0_pay9 (View.ld K r0_7)) (k0_pay10 (View.ld V r0_7)) (ix2 r i)
      = attLate (fun i => q (ix2 r i)) (fun m i => K (ix3 0 m i)) (fun m i => V (ix3 0 m i)) i := by
  refine att_of r i (fun e => ?_) (fun m e => ?_) (fun m e => ?_) (fun e => ?_) (fun m e => ?_) (fun m e => ?_)
    (fun e => ?_) (fun m e => ?_) (fun m e => ?_) (fun e => ?_) (fun m e => ?_) (fun m e => ?_)
  all_goals pointwise
  all_goals first
    | exact congrArg (fun z => q (ix2 r z)) (Fin.ext (by simp))
    | exact congrArg (fun z => K (ix3 0 m z)) (Fin.ext (by simp))
    | exact congrArg (fun z => V (ix3 0 m z)) (Fin.ext (by simp))

theorem out_at (x : FVec Ideal S512x1024 .f32) (odn : FVec Ideal S512x1024 .bf16) (osg q : FVec Ideal S512x512 .bf16)
    (K V : FVec Ideal S1x256x512 .f32) (g : FVec Ideal S1x1024 .f32) (wg : FVec Ideal S3072x1024 .bf16)
    (wdn : FVec Ideal S1024x1024 .bf16) (wsg wmem : FVec Ideal S512x1024 .bf16) (wo : FVec Ideal S1024x1024 .bf16)
    (r : Fin 512) (l : Fin 1024) :
    out0_12 (F := Ideal) x odn osg q K V g wg wdn wsg wmem wo (ix2 r l)
      = mergeRow (fun k => x (ix2 r k)) (fun k => g (ix2 0 k)) (fun i => odn (ix2 r i)) (fun i => osg (ix2 r i))
          (attLate (fun i => q (ix2 r i)) (fun m i => K (ix3 0 m i)) (fun m i => V (ix3 0 m i)))
          (fun n k => wg (ix2 n k)) (fun i j => wdn (ix2 i j)) (fun i j => wsg (ix2 i j)) (fun i j => wmem (ix2 i j))
          (fun j l => wo (ix2 j l)) l := by
  unfold_out out0_12
  frame_out
  rw [stored_at]
  simp only [gated_at, gate_at, att_at, xn_at]
  pointwise [k0_pay12, k0_pay14, k0_pay15, k0_pay16]
  simp only [xn_at]
  rfl

end Cert.MergePay
end
-- ==== Proof.MergeBlocks.lean ====
/- The blocks the merge kernel reads at a grid point, as words of the arguments, and the array it leaves. -/
module

public import proofs.«01_k».proof.Proof.MergePay
public import proofs.«01_k».proof.Proof.Gen.MergeIdeal.Value
public import Idealize.ShloMosaic.Lib.Claim

@[expose] public section

set_option maxRecDepth 16384

noncomputable section

namespace Cert.MergeBlocks

open Idealize.ShloMosaic Idealize.ShloMosaic.TcCoe Idealize.SL.Sem Cert.MergeIdeal Cert.MergeIdeal.Gen Cert.Math
open Idealize.ShloMosaic.Pipeline (Dat)

variable (m : (ℓ : Loc nD τ sig) → Buf (Elt Ideal) ℓ)

/-- Where each window's block lies at each grid point: the rows' tiles in order, the keys and values of the row's
    sequence, and the weights whole. -/
theorem idx : ∀ t : Fin cfg0.N, (win0_0.index t = ![t.val, 0] ∧ win0_1.index t = ![t.val, 0] ∧ win0_2.index t = ![t.val, 0]
    ∧ win0_3.index t = ![t.val, 0] ∧ win0_12.index t = ![t.val, 0])
    ∧ win0_4.index t = ![t.val / 4, 0, 0] ∧ win0_5.index t = ![t.val / 4, 0, 0] ∧ win0_6.index t = ![0, 0]
    ∧ win0_8.index t = ![0, 0] ∧ win0_9.index t = ![0, 0] ∧ win0_10.index t = ![0, 0] ∧ win0_11.index t = ![0, 0] :=
  (by decide +kernel : ∀ t : Fin grid0.N, _)

/-- The gates' weights are the rows from 5648 on. -/
theorem idx7 : ∀ t : Fin cfg0.N, win0_7.index t = ![5648, 0] :=
  (by decide +kernel : ∀ t : Fin grid0.N, _)

/-- The element window's block begins at its index map's value. -/
theorem emb7 (t : Fin cfg0.N) (y : S3072x1024.Idx) (a : Fin 2) :
    ((((cfg0.win 7).blk t).view.emb y a : Fin _) : ℕ) = win0_7.index t a + (y a : ℕ) :=
  Pipeline.Window.rect_emb_val_off win0_7 t y a

theorem t_lt (t : Fin cfg0.N) : t.val < 32 := t.isLt

/-- The sequence that row `r` of point `t`'s tile belongs to, and its place there. -/
abbrev sq (t : Fin cfg0.N) (r : Fin 512) : Fin 8 := ⟨(512 * t.val + r.val) / 2048, by have := t_lt t; omega⟩
abbrev tk (t : Fin cfg0.N) (r : Fin 512) : Fin 2048 := ⟨(512 * t.val + r.val) % 2048, by omega⟩

theorem blk0 (c : Dev nD) (t : Fin cfg0.N) (r : Fin 512) (k : Fin 1024) :
    (iblk m c 0 t : FVec Ideal S512x1024 .f32) (ix2 r k)
      = (m ((c : Thread nD τ).loc main_arg0) : FVec Ideal S8x2048x1024 .f32) (ix3 (sq t r) (tk t r) k) := by
  blk_simp [iblk, idx t]
  entry_read
  pointwise
  blk_ext [idx t]

theorem blk1 (c : Dev nD) (t : Fin cfg0.N) (r : Fin 512) (k : Fin 1024) :
    (iblk m c 1 t : FVec Ideal S512x1024 .bf16) (ix2 r k)
      = (m ((c : Thread nD τ).loc main_arg1) : FVec Ideal S8x2048x1024 .bf16) (ix3 (sq t r) (tk t r) k) := by
  blk_simp [iblk, idx t]
  entry_read
  pointwise
  blk_ext [idx t]

theorem blk2 (c : Dev nD) (t : Fin cfg0.N) (r : Fin 512) (k : Fin 512) :
    (iblk m c 2 t : FVec Ideal S512x512 .bf16) (ix2 r k)
      = (m ((c : Thread nD τ).loc main_arg2) : FVec Ideal S8x2048x512 .bf16) (ix3 (sq t r) (tk t r) k) := by
  blk_simp [iblk, idx t]
  entry_read
  pointwise
  blk_ext [idx t]

theorem blk3 (c : Dev nD) (t : Fin cfg0.N) (r : Fin 512) (k : Fin 512) :
    (iblk m c 3 t : FVec Ideal S512x512 .bf16) (ix2 r k)
      = (m ((c : Thread nD τ).loc main_arg3) : FVec Ideal S8x2048x512 .bf16) (ix3 (sq t r) (tk t r) k) := by
  blk_simp [iblk, idx t]
  entry_read
  pointwise
  blk_ext [idx t]

theorem blk4 (c : Dev nD) (t : Fin cfg0.N) (r : Fin 512) (n : Fin 256) (k : Fin 512) :
    (iblk m c 4 t : FVec Ideal S1x256x512 .f32) (ix3 0 n k)
      = (m ((c : Thread nD τ).loc main_arg4) : FVec Ideal S8x256x4x128 .f32)
          (ix4 (sq t r) n ⟨k.val / 128, by omega⟩ ⟨k.val % 128, by omega⟩) := by
  blk_simp [iblk, idx t]
  entry_read
  pointwise
  blk_ext [idx t]

theorem blk5 (c : Dev nD) (t : Fin cfg0.N) (r : Fin 512) (n : Fin 256) (k : Fin 512) :
    (iblk m c 5 t : FVec Ideal S1x256x512 .f32) (ix3 0 n k)
      = (m ((c : Thread nD τ).loc main_arg5) : FVec Ideal S8x256x4x128 .f32)
          (ix4 (sq t r) n ⟨k.val / 128, by omega⟩ ⟨k.val % 128, by omega⟩) := by
  blk_simp [iblk, idx t]
  entry_read
  pointwise
  blk_ext [idx t]

theorem blk6 (c : Dev nD) (t : Fin cfg0.N) (k : Fin 1024) :
    (iblk m c 6 t : FVec Ideal S1x1024 .f32) (ix2 0 k)
      = (m ((c : Thread nD τ).loc main_arg6) : FVec Ideal S1x1024 .f32) (ix2 0 k) := by
  blk_simp [iblk, idx t]
  entry_read
  pointwise
  blk_ext [idx t]

theorem blk7 (c : Dev nD) (t : Fin cfg0.N) (n : Fin 3072) (k : Fin 1024) :
    (iblk m c 7 t : FVec Ideal S3072x1024 .bf16) (ix2 n k)
      = (m ((c : Thread nD τ).loc main_arg7) : FVec Ideal S1x1024x8720 .f32) (ix3 0 k ⟨5648 + n.val, by omega⟩) := by
  blk_simp [iblk]
  entry_read
  pointwise
  have e0 := emb7 t (ix2 n k) 0
  have e1 := emb7 t (ix2 n k) 1
  rw [idx7 t] at e0 e1
  exact congrArg (m ((c : Thread nD τ).loc main_arg7))
    (congrArg₂ (ix3 (n0 := 1) (n1 := 1024) (n2 := 8720) 0) (Fin.ext (e1.trans (Nat.zero_add _))) (Fin.ext e0))

theorem blk8 (c : Dev nD) (t : Fin cfg0.N) (i : Fin 1024) (k : Fin 1024) :
    (iblk m c 8 t : FVec Ideal S1024x1024 .bf16) (ix2 i k)
      = (m ((c : Thread nD τ).loc main_arg8) : FVec Ideal S1x1024x1024 .f32) (ix3 0 i k) := by
  blk_simp [iblk, idx t]
  entry_read
  pointwise
  blk_ext [idx t]

theorem blk9 (c : Dev nD) (t : Fin cfg0.N) (i : Fin 512) (k : Fin 1024) :
    (iblk m c 9 t : FVec Ideal S512x1024 .bf16) (ix2 i k)
      = (m ((c : Thread nD τ).loc main_arg9) : FVec Ideal S1x512x1024 .f32) (ix3 0 i k) := by
  blk_simp [iblk, idx t]
  entry_read
  pointwise
  blk_ext [idx t]

theorem blk10 (c : Dev nD) (t : Fin cfg0.N) (i : Fin 512) (k : Fin 1024) :
    (iblk m c 10 t : FVec Ideal S512x1024 .bf16) (ix2 i k)
      = (m ((c : Thread nD τ).loc main_arg10) : FVec Ideal S1x512x1024 .f32) (ix3 0 i k) := by
  blk_simp [iblk, idx t]
  entry_read
  pointwise
  blk_ext [idx t]

theorem blk11 (c : Dev nD) (t : Fin cfg0.N) (i : Fin 1024) (k : Fin 1024) :
    (iblk m c 11 t : FVec Ideal S1024x1024 .bf16) (ix2 i k)
      = (m ((c : Thread nD τ).loc main_arg11) : FVec Ideal S1x1024x1024 .f32) (ix3 0 i k) := by
  blk_simp [iblk, idx t]
  entry_read
  pointwise
  blk_ext [idx t]

/-- The row of the merge at word `l` of row `t` of sequence `b`, from the arguments, given the attention `at'`. -/
def argRow (at' : (Fin 512 → EReal) → (Fin 256 → Fin 512 → EReal) → (Fin 256 → Fin 512 → EReal) → Fin 512 → EReal)
    (x : FVec Ideal S8x2048x1024 .f32) (odn : FVec Ideal S8x2048x1024 .bf16) (osg q : FVec Ideal S8x2048x512 .bf16)
    (K V : FVec Ideal S8x256x4x128 .f32) (g : FVec Ideal S1x1024 .f32) (w : FVec Ideal S1x1024x8720 .f32)
    (wdn : FVec Ideal S1x1024x1024 .f32) (wsg wmem : FVec Ideal S1x512x1024 .f32) (wo : FVec Ideal S1x1024x1024 .f32)
    (b : Fin 8) (t : Fin 2048) (l : Fin 1024) : EReal :=
  mergeRow (fun k => x (ix3 b t k)) (fun k => g (ix2 0 k)) (fun i => odn (ix3 b t i)) (fun i => osg (ix3 b t i))
    (at' (fun i => q (ix3 b t i)) (fun n i => K (ix4 b n ⟨i.val / 128, by omega⟩ ⟨i.val % 128, by omega⟩))
      (fun n i => V (ix4 b n ⟨i.val / 128, by omega⟩ ⟨i.val % 128, by omega⟩)))
    (fun n k => w (ix3 0 k ⟨5648 + n.val, by omega⟩)) (fun i j => wdn (ix3 0 i j)) (fun i j => wsg (ix3 0 i j))
    (fun i j => wmem (ix3 0 i j)) (fun j l => wo (ix3 0 j l)) l

/-- The array the kernel leaves, from the arguments. -/
def G (c : Dev nD) : FVec Ideal S16384x1024 .f32 := fun i =>
  argRow attLate (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) ⟨(i 0).val / 2048, by have : (i 0).val < 16384 := (i 0).isLt; omega⟩
    ⟨(i 0).val % 2048, by omega⟩ (i 1)

/-- What grid point `t` stores is its tile of that array. -/
theorem point (c : Dev nD) (t : Fin cfg0.N) (r : Fin 512) (l : Fin 1024) :
    out0_12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r l)
      = G m c (ix2 ⟨512 * t.val + r.val, by have := t_lt t; omega⟩ l) := by
  refine (MergePay.out_at _ _ _ _ _ _ _ _ _ _ _ _ r l).trans ?_
  simp only [blk0, blk1, blk2, blk3, blk4 m c t r, blk5 m c t r, blk6, blk7, blk8, blk9, blk10, blk11]
  rfl

theorem final (c : Dev nD) : (dats m 0 c).arrAt 12 (cfgs 0).N = G m c := by
  refine (dats m 0 c).arrAt_eq_of_covers 12 _ (by decide +kernel) fun t _ y => ?_
  blk_simp
  rw [after0_12]
  obtain ⟨r, l, rfl⟩ : ∃ (r : Fin 512) (l : Fin 1024), y = ix2 r l := ⟨y 0, y 1, eq_ix2 y⟩
  refine (point m c t r l).trans (congrArg (G m c) ?_)
  blk_ext [idx t]

end Cert.MergeBlocks

end
-- ==== Proof.MergeRef.lean ====
/- The merge's reference, read at one word: it is the merge's row with the attention the reference takes. -/
module

public import proofs.«01_k».proof.Proof.MergeBlocks
public import proofs.«01_k».proof.Proof.Gen.MergeRefIdeal.Read

@[expose] public section

set_option maxRecDepth 16384

noncomputable section

namespace Cert.MergeRead

open Idealize.ShloMosaic Cert.MergeRefIdeal Cert.MergeRefIdeal.Gen Cert.MergeRefIdeal.Read Cert.Math

theorem norm_at (x : FVec Ideal S8x2048x1024 .f32) (g : FVec Ideal S1x1024 .f32) (b : Fin 8) (t : Fin 2048) (k : Fin 1024) :
    (val_main_v16 (F := Ideal) x g : FVec Ideal S8x2048x1024 .f32) (ix3 b t k)
      = rms1024 (fun j => x (ix3 b t j)) (fun j => g (ix2 0 j)) k := by
  pointwise [val_main_v16, val_main_v15, val_main_v14, val_main_v13, val_main_v12, val_main_v11, val_main_v10,
    val_main_v9, val_main_v8, val_main_v7, val_main_v6, val_main_v5, val_main_v4, val_main_v3, val_main_cst,
    val_main_cst_0, val_main_cst_1]
  rfl

theorem gate_at (x : FVec Ideal S8x2048x1024 .f32) (g : FVec Ideal S1x1024 .f32) (w : FVec Ideal S1x1024x8720 .f32)
    (b : Fin 8) (t : Fin 2048) (n : Fin 3072) :
    (val_main_v43 (F := Ideal) x g w : FVec Ideal S8x2048x3072 .f32) (ix3 b t n)
      = sig (dot (rms1024 (fun j => x (ix3 b t j)) (fun j => g (ix2 0 j))) (fun k => w (ix3 0 k ⟨5648 + n.val, by omega⟩))) := by
  pointwise [val_main_v43, val_main_v42, val_main_v41, val_main_v40, val_main_v39, val_main_v38, val_main_v19,
    val_main_v18, val_main_v17, val_main_cst_6, val_main_cst_7]
  simp only [norm_at]
  rfl

/-- The three gates of a word, in the reference's layout of the gates. -/
theorem gate_of (x : FVec Ideal S8x2048x1024 .f32) (g : FVec Ideal S1x1024 .f32) (w : FVec Ideal S1x1024x8720 .f32)
    (b : Fin 8) (t : Fin 2048) (j : Fin 1024) :
    (val_main_v46 (F := Ideal) x g w : FVec Ideal S8x2048x1024 .f32) (ix3 b t j)
        = (val_main_v43 (F := Ideal) x g w : FVec Ideal S8x2048x3072 .f32) (ix3 b t ⟨j.val, by omega⟩)
      ∧ (val_main_v51 (F := Ideal) x g w : FVec Ideal S8x2048x1024 .f32) (ix3 b t j)
        = (val_main_v43 (F := Ideal) x g w : FVec Ideal S8x2048x3072 .f32) (ix3 b t ⟨1024 + j.val, by omega⟩)
      ∧ (val_main_v57 (F := Ideal) x g w : FVec Ideal S8x2048x1024 .f32) (ix3 b t j)
        = (val_main_v43 (F := Ideal) x g w : FVec Ideal S8x2048x3072 .f32) (ix3 b t ⟨2048 + j.val, by omega⟩) := by
  refine ⟨?_, ?_, ?_⟩
  · pointwise [val_main_v46, val_main_v45, val_main_v44]
    blk_ext
  · pointwise [val_main_v51, val_main_v50, val_main_v44]
    blk_ext
  · pointwise [val_main_v57, val_main_v56, val_main_v44]
    blk_ext

theorem scores_at (q : FVec Ideal S8x2048x512 .bf16) (K : FVec Ideal S8x256x4x128 .f32) (b : Fin 8) (h : Fin 4)
    (t : Fin 2048) (n : Fin 256) :
    (val_main_v23 (F := Ideal) q K : FVec Ideal S8x4x2048x256 .f32) (ix4 b h t n)
      = scores (fun i => q (ix3 b t i)) (fun n i => K (ix4 b n ⟨i.val / 128, by omega⟩ ⟨i.val % 128, by omega⟩)) h n := by
  pointwise [val_main_v23, val_main_v22, val_main_v21, val_main_v20, val_main_v2, val_main_cst_2]
  refine congrArg (· * _) (Finset.sum_congr rfl fun e _ => congrArg₂ (· * ·) (congrArg (fun z => q (ix3 b t z)) (Fin.ext ?_))
    (congrArg₂ (fun y z => K (ix4 b n y z)) (Fin.ext ?_) (Fin.ext ?_)))
  · exact congrArg (· + e.val) (Nat.mul_comm _ _)
  · show h.val = (128 * h.val + e.val) / 128
    omega
  · show e.val = (128 * h.val + e.val) % 128
    omega

section
variable (q : FVec Ideal S8x2048x512 .bf16) (K V : FVec Ideal S8x256x4x128 .f32) (b : Fin 8) (h : Fin 4) (t : Fin 2048)

/-- A row of the reference's scores. -/
def srow (n : Fin 256) : EReal := (val_main_v23 (F := Ideal) q K : FVec Ideal S8x4x2048x256 .f32) (ix4 b h t n)

theorem fold_at : (val_main_v24 (F := Ideal) q K : FVec Ideal S8x4x2048 .f32) (ix3 b h t) = top (srow q K b h t) := by
  unfold val_main_v24
  pointwise [val_main_cst_3]
  rfl

theorem top_at : (val_main_v26 (F := Ideal) q K : FVec Ideal S8x4x2048 .f32) (ix3 b h t) = top (srow q K b h t) := by
  rw [val_main_v26_apply, fold_at, val_main_v25_apply, val_main_cst_4_apply]
  show max (Ideal.ofBits .f32 0xFF800000#32) _ = _
  rw [ninf, max_eq_right bot_le]

theorem num_at (n : Fin 256) :
    (val_main_v30 (F := Ideal) q K : FVec Ideal S8x4x2048x256 .f32) (ix4 b h t n) = num (srow q K b h t) n := by
  unfold val_main_v30 val_main_v29 val_main_v28 val_main_v27
  pointwise
  rw [top_at]
  rfl

theorem den_at :
    (val_main_v31 (F := Ideal) q K : FVec Ideal S8x4x2048 .f32) (ix3 b h t) = ∑ n, num (srow q K b h t) n := by
  unfold val_main_v31
  pointwise [val_main_cst_5]
  simp only [num_at]

theorem att_at (d : Fin 128) :
    (val_main_v35 (F := Ideal) q K V : FVec Ideal S8x4x128x2048 .f32) (ix4 b h d t)
      = soft (srow q K b h t) fun n => V (ix4 b n h d) := by
  unfold val_main_v35 val_main_v34 val_main_v33 val_main_v32
  pointwise
  simp only [num_at, den_at]
  rfl

/-- The heads' averages, joined into a row. -/
theorem omem_at (i : Fin 512) :
    (val_main_v37 (F := Ideal) q K V : FVec Ideal S8x2048x512 .f32) (ix3 b t i)
      = att (fun i => q (ix3 b t i)) (fun n i => K (ix4 b n ⟨i.val / 128, by omega⟩ ⟨i.val % 128, by omega⟩))
          (fun n i => V (ix4 b n ⟨i.val / 128, by omega⟩ ⟨i.val % 128, by omega⟩)) i := by
  unfold val_main_v37 val_main_v36
  pointwise
  refine (att_at q K V b _ t _).trans ?_
  exact congrArg (fun s => soft s _) (funext fun n => scores_at q K b _ t n)

end

theorem dn_at (o : FVec Ideal S8x2048x1024 .bf16) (w : FVec Ideal S1x1024x1024 .f32) (b : Fin 8) (t : Fin 2048) (j : Fin 1024) :
    (val_main_v48 (F := Ideal) o w : FVec Ideal S8x2048x1024 .f32) (ix3 b t j)
      = dot (fun i => o (ix3 b t i)) (fun i => w (ix3 0 i j)) := by
  pointwise [val_main_v48, val_main_v47, val_main_v0]
  rfl

theorem sg_at (o : FVec Ideal S8x2048x512 .bf16) (w : FVec Ideal S1x512x1024 .f32) (b : Fin 8) (t : Fin 2048) (j : Fin 1024) :
    (val_main_v53 (F := Ideal) o w : FVec Ideal S8x2048x1024 .f32) (ix3 b t j)
      = dot (fun i => o (ix3 b t i)) (fun i => w (ix3 0 i j)) := by
  pointwise [val_main_v53, val_main_v52, val_main_v1]
  rfl

theorem mem_at (q : FVec Ideal S8x2048x512 .bf16) (K V : FVec Ideal S8x256x4x128 .f32) (w : FVec Ideal S1x512x1024 .f32)
    (b : Fin 8) (t : Fin 2048) (j : Fin 1024) :
    (val_main_v59 (F := Ideal) q K V w : FVec Ideal S8x2048x1024 .f32) (ix3 b t j)
      = dot (att (fun i => q (ix3 b t i)) (fun n i => K (ix4 b n ⟨i.val / 128, by omega⟩ ⟨i.val % 128, by omega⟩))
          (fun n i => V (ix4 b n ⟨i.val / 128, by omega⟩ ⟨i.val % 128, by omega⟩))) (fun i => w (ix3 0 i j)) := by
  unfold val_main_v59 val_main_v58
  pointwise
  simp only [omem_at]
  rfl

section
variable (x : FVec Ideal S8x2048x1024 .f32) (odn : FVec Ideal S8x2048x1024 .bf16) (osg q : FVec Ideal S8x2048x512 .bf16)
  (K V : FVec Ideal S8x256x4x128 .f32) (g : FVec Ideal S1x1024 .f32) (w : FVec Ideal S1x1024x8720 .f32)
  (wdn : FVec Ideal S1x1024x1024 .f32) (wsg wmem : FVec Ideal S1x512x1024 .f32) (wo : FVec Ideal S1x1024x1024 .f32)

theorem merged_at (b : Fin 8) (t : Fin 2048) (j : Fin 1024) :
    (val_main_v61 (F := Ideal) x odn osg q K V g w wdn wsg wmem : FVec Ideal S8x2048x1024 .f32) (ix3 b t j)
      = merged (rms1024 (fun k => x (ix3 b t k)) fun k => g (ix2 0 k)) (fun i => odn (ix3 b t i)) (fun i => osg (ix3 b t i))
          (att (fun i => q (ix3 b t i)) (fun n i => K (ix4 b n ⟨i.val / 128, by omega⟩ ⟨i.val % 128, by omega⟩))
            (fun n i => V (ix4 b n ⟨i.val / 128, by omega⟩ ⟨i.val % 128, by omega⟩)))
          (fun n k => w (ix3 0 k ⟨5648 + n.val, by omega⟩)) (fun i j => wdn (ix3 0 i j)) (fun i j => wsg (ix3 0 i j))
          (fun i j => wmem (ix3 0 i j)) j := by
  obtain ⟨h0, h1, h2⟩ := gate_of x g w b t j
  rw [val_main_v61_apply, val_main_v60_apply, val_main_v55_apply, val_main_v54_apply, val_main_v49_apply, h0, h1, h2,
    dn_at, sg_at, mem_at, gate_at, gate_at, gate_at]
  rfl

theorem row_at (b : Fin 8) (t : Fin 2048) (l : Fin 1024) :
    (val_main_v64 (F := Ideal) x odn osg q K V g w wdn wsg wmem wo : FVec Ideal S8x2048x1024 .f32) (ix3 b t l)
      = MergeBlocks.argRow att x odn osg q K V g w wdn wsg wmem wo b t l := by
  unfold val_main_v64 val_main_v63 val_main_v62
  pointwise
  simp only [merged_at]
  rfl

theorem out_at (i : S16384x1024.Idx) :
    val_main_v65 (F := Ideal) x odn osg q K V g w wdn wsg wmem wo i
      = MergeBlocks.argRow att x odn osg q K V g w wdn wsg wmem wo
          ⟨(i 0).val / 2048, by have : (i 0).val < 16384 := (i 0).isLt; omega⟩ ⟨(i 0).val % 2048, by omega⟩ (i 1) := by
  obtain ⟨n, l, rfl⟩ : ∃ (n : Fin 16384) (l : Fin 1024), i = ix2 n l := ⟨i 0, i 1, eq_ix2 i⟩
  unfold val_main_v65
  pointwise
  exact row_at x odn osg q K V g w wdn wsg wmem wo _ _ l

end

end Cert.MergeRead
end
-- ==== Proof.MergePre.lean ====
/- The precondition, as a statement about words: the memory queries and keys are real numbers. -/
module

public import proofs.«01_k».proof.Proof.MergeMath
public import proofs.«01_k».proof.Proof.Gen.Pre_finite_scores
public import proofs.«01_k».proof.Pre_finite_scores
public import Idealize.ShloMosaic.Lib.Pointwise

@[expose] public section

set_option maxRecDepth 16384

noncomputable section

namespace Cert.MergePre

open Idealize.ShloMosaic Cert.Math Cert.Pre_finite_scores

attribute [local instance] Cert.Pre_finite_scores.Gen.facts

/-- A value whose magnitude compares below `+∞` is a real number. -/
theorem real_of_abs {z : EReal} (h : BitVec.ofBool (decide (max z (-z) < Ideal.ofBits .f32 0x7F800000#32)) = 1#1) :
    IsReal z := by
  have hlt : max z (-z) < Ideal.ofBits .f32 0x7F800000#32 := by
    by_contra hn
    rw [decide_eq_false hn] at h
    exact absurd h (by decide)
  have htop : Ideal.ofBits .f32 0x7F800000#32 = ⊤ := by simp [Ideal.ofBits, Ideal.ieee]
  rw [htop, max_lt_iff] at hlt
  induction z with
  | bot => exact absurd hlt.2 (by simp)
  | top => exact absurd hlt.1 (by simp)
  | coe r => exact ⟨r, rfl⟩

theorem finite (x : FVec Ideal S8x2048x1024 .f32) (odn : FVec Ideal S8x2048x1024 .bf16) (osg q : FVec Ideal S8x2048x512 .bf16)
    (K V : FVec Ideal S8x256x4x128 .f32) (g : FVec Ideal S1x1024 .f32) (w : FVec Ideal S1x1024x8720 .f32)
    (wdn : FVec Ideal S1x1024x1024 .f32) (wsg wmem : FVec Ideal S1x512x1024 .f32) (wo : FVec Ideal S1x1024x1024 .f32)
    (h : (fn (F := Ideal) x odn osg q K V g w wdn wsg wmem wo).1 = (fun _ => 1#1)
      ∧ (fn (F := Ideal) x odn osg q K V g w wdn wsg wmem wo).2 = (fun _ => 1#1)) :
    (∀ b t i, IsReal (q (ix3 b t i))) ∧ ∀ b n y z, IsReal (K (ix4 b n y z)) := by
  refine ⟨fun b t i => ?_, fun b n y z => ?_⟩
  · have e := congrFun h.1 (ix3 b t i)
    unfold fn at e
    dsimp only at e
    pointwise at e
    exact real_of_abs e
  · have e := congrFun h.2 (ix4 b n y z)
    unfold fn at e
    dsimp only at e
    pointwise at e
    exact real_of_abs e

end Cert.MergePre
end
-- ==== Proof.MergeClaim.lean ====
/- The claims of the merge: the frames of its three programs, the named constant, and the equality of the results. -/
module

public import proofs.«01_k».proof.Defs
public import proofs.«01_k».proof.Proof.Gen.Merge.Frame
public import proofs.«01_k».proof.Proof.Gen.MergeRefIdeal.Run
public import proofs.«01_k».proof.Proof.MergeRef
public import proofs.«01_k».proof.Proof.MergePre

@[expose] public section

set_option maxRecDepth 16384

noncomputable section

namespace Cert.MergeClaim

open Idealize.ShloMosaic Idealize.ShloMosaic.TcCoe Idealize.SL.Sem Cert.Math

attribute [local instance] Cert.Merge.Gen.facts Cert.MergeIdeal.Gen.facts Cert.MergeRefIdeal.Gen.facts
  Cert.Pre_finite_scores.Gen.facts

theorem frame_kernel : Cert.quiescent_Merge := fun m g _ => Cert.Merge.Gen.frame m g

theorem frame_ideal : Cert.quiescent_MergeIdeal := fun m g _ => Cert.MergeIdeal.Gen.frame m g

theorem frame_ideal_pre : Cert.quiescent_MergeIdeal_pre_finite_scores := fun m g _ => Cert.MergeIdeal.Gen.frame m g

/-- The reference declares no semaphore. -/
theorem frame_ref : Cert.quiescent_MergeRefIdeal := fun m g _ =>
  (θ_run _ _ _).mono (fun r h => ⟨fun c => (h c).2, Idealize.ShloMosaic.sem_eq_zero_of_no_sems (by decide) r.2⟩)
    (Cert.MergeRefIdeal.Value.run m g)

theorem frame_ref_pre : Cert.quiescent_MergeRefIdeal_pre_finite_scores := fun m g _ => frame_ref m g trivial

theorem preserves : Cert.preserves_Merge_MergeIdeal :=
  IdealRules.named_const.statement Cert.MergeIdeal.κ "neg_log2e" .f32 0xBFB8AA3B#32 _ rfl

/-- With finite queries and keys the reference's attention may be read as the kernel's. -/
theorem argRow_eq {x : FVec Ideal ⟨3, ![8, 2048, 1024]⟩ .f32} {odn : FVec Ideal ⟨3, ![8, 2048, 1024]⟩ .bf16}
    {osg q : FVec Ideal ⟨3, ![8, 2048, 512]⟩ .bf16} {K V : FVec Ideal ⟨4, ![8, 256, 4, 128]⟩ .f32}
    {g : FVec Ideal ⟨2, ![1, 1024]⟩ .f32} {w : FVec Ideal ⟨3, ![1, 1024, 8720]⟩ .f32}
    {wdn : FVec Ideal ⟨3, ![1, 1024, 1024]⟩ .f32} {wsg wmem : FVec Ideal ⟨3, ![1, 512, 1024]⟩ .f32}
    {wo : FVec Ideal ⟨3, ![1, 1024, 1024]⟩ .f32} (hq : ∀ b t i, IsReal (q (ix3 b t i)))
    (hK : ∀ b n y z, IsReal (K (ix4 b n y z))) (b : Fin 8) (t : Fin 2048) (l : Fin 1024) :
    MergeBlocks.argRow att x odn osg q K V g w wdn wsg wmem wo b t l
      = MergeBlocks.argRow attLate x odn osg q K V g w wdn wsg wmem wo b t l := by
  unfold MergeBlocks.argRow
  rw [attLate_eq _ (fun i => hq b t i) (fun n i => hK b n _ _)]

theorem algebraic : Cert.algebraic_MergeIdeal_MergeRefIdeal_pre_finite_scores := by
  pair_intro
  · run_from Cert.MergeIdeal.Gen.run_main m g
  · run_from Cert.MergeRefIdeal.Value.run m' g'
    obtain ⟨h0, h1, h2, h3, h4, h5, h6, h7, h8, h9, h10, h11⟩ := hagree c
    rw [MergeBlocks.final, MergeRefIdeal.Read.val_main_v65_eq, h0, h1, h2, h3, h4, h5, h6, h7, h8, h9, h10, h11]
    obtain ⟨hq, hK⟩ := MergePre.finite _ _ _ _ _ _ _ _ _ _ _ _ (hpre c)
    funext i
    rw [MergeRead.out_at]
    exact argRow_eq hq hK _ _ _

end Cert.MergeClaim

end
-- ==== Proof.LayerMath.lean ====
/- What one row of the other calls computes, as functions of the row and of the weights, and the gate through a power of
   two with its named constant. -/
module

public import proofs.«01_k».proof.Proof.MergeMath
public import Idealize.ShloMosaic.PureOps.IdealRules

@[expose] public section

noncomputable section

namespace Cert.Math

open Idealize.ShloMosaic

/-- The kernels' logistic function, through a power of two. -/
theorem gate {κ : String → Option EReal} (h : κ "neg_log2e" = some ((-((Real.log 2)⁻¹) : ℝ) : EReal)) (z : EReal) :
    Ideal.div 1 (1 + (FloatOps.exp2 (F := Ideal) (φ := .f32) (z * Named.named (F := Ideal) κ "neg_log2e" (φ := .f32) 0xBFB8AA3B#32) : EReal)) = sig z := by
  rw [IdealRules.named_const.ideal_named_scalar _ _ _ _ h]
  exact congrArg (fun y => Ideal.div 1 (1 + y)) (exp2_scaled z)

/-- A value times its logistic function. -/
def silu (z : EReal) : EReal := z * sig z

/-- The gated unit's row before its last norm: the row plus the product of the gated columns with the weights. The gate
    takes the first 2816 columns of `wgu`, the values it gates the next 2816. -/
def ffnRow (x g : Fin 1024 → EReal) (wgu : Fin 1024 → Fin 5632 → EReal) (wd : Fin 2816 → Fin 1024 → EReal)
    (l : Fin 1024) : EReal :=
  x l + dot (fun j : Fin 2816 => silu (dot (rms1024 x g) fun k => wgu k ⟨j.val, by omega⟩)
    * dot (rms1024 x g) fun k => wgu k ⟨2816 + j.val, by omega⟩) fun j => wd j l

/-- Word `l` of row `t` of sequence `b` of the normed result, from the arguments. -/
def ffnArg (x : FVec Ideal ⟨3, ![8, 2048, 1024]⟩ .f32) (g : FVec Ideal ⟨2, ![1, 1024]⟩ .f32)
    (wgu : FVec Ideal ⟨3, ![1, 1024, 5632]⟩ .f32) (wd : FVec Ideal ⟨3, ![1, 2816, 1024]⟩ .f32)
    (gf : FVec Ideal ⟨1, ![1024]⟩ .f32) (b : Fin 8) (t : Fin 2048) (l : Fin 1024) : EReal :=
  rms1024 (ffnRow (fun k => x (ix3 b t k)) (fun k => g (ix2 0 k)) (fun k n => wgu (ix3 0 k n)) fun j l => wd (ix3 0 j l))
    (fun l => gf (ix1 l)) l

/-- Column `n` of the projection of a memory's normed row. -/
def kvArg (x : FVec Ideal ⟨3, ![8, 256, 1024]⟩ .f32) (g : FVec Ideal ⟨2, ![1, 1024]⟩ .f32)
    (w : FVec Ideal ⟨3, ![1, 1024, 1024]⟩ .f32) (b : Fin 8) (t : Fin 256) (n : Fin 1024) : EReal :=
  dot (rms1024 (fun k => x (ix3 b t k)) fun k => g (ix2 0 k)) fun k => w (ix3 0 k n)

end Cert.Math

end
-- ==== Proof.FfnBlocks.lean ====
/- The gated unit's body, read at one word of the block it stores, the blocks it reads at a grid point, as words of the
   arguments, and the array it leaves. -/
module

public import proofs.«01_k».proof.Proof.LayerMath
public import proofs.«01_k».proof.Proof.Gen.FfnIdeal.Value
public import Idealize.ShloMosaic.Lib.Pipeline.ValueKit
public import Idealize.ShloMosaic.Lib.Claim

@[expose] public section

set_option maxRecDepth 16384

noncomputable section

namespace Cert.FfnBlocks

open Idealize.ShloMosaic Idealize.ShloMosaic.TcCoe Idealize.SL.Sem Cert.FfnIdeal Cert.FfnIdeal.Gen Cert.Math
open Idealize.ShloMosaic.Pipeline (Dat)

theorem row_at (x : FVec Ideal S512x1024 .f32) (g : FVec Ideal S1x1024 .f32) (wg wu : FVec Ideal S1024x2816 .bf16)
    (wd : FVec Ideal S2816x1024 .bf16) (r : Fin 512) (l : Fin 1024) :
    k0_pay2 (F := Ideal) x g wg wu wd (ix2 r l)
      = x (ix2 r l) + dot (fun j : Fin 2816 => silu (dot (rms1024 (fun j => x (ix2 r j)) fun j => g (ix2 0 j)) fun k => wg (ix2 k j))
          * dot (rms1024 (fun j => x (ix2 r j)) fun j => g (ix2 0 j)) fun k => wu (ix2 k j)) fun j => wd (ix2 j l) := by
  pointwise [k0_pay2]
  simp only [gate (κ := κ) rfl]
  rfl

theorem norm_at (x : FVec Ideal S512x1024 .f32) (g : FVec Ideal S1x1024 .f32) (r : Fin 512) (l : Fin 1024) :
    k0_pay1 (F := Ideal) x g (ix2 r l) = rms1024 (fun j => x (ix2 r j)) (fun j => g (ix2 0 j)) l := by
  pointwise [k0_pay1]
  rfl

theorem out_at (x : FVec Ideal S512x1024 .f32) (g : FVec Ideal S1x1024 .f32) (wgu : FVec Ideal S1024x5632 .bf16)
    (wd : FVec Ideal S2816x1024 .bf16) (gf : FVec Ideal S1x1024 .f32) (r : Fin 512) (l : Fin 1024) :
    out0_5 (F := Ideal) x g wgu wd gf (ix2 r l)
      = rms1024 (ffnRow (fun k => x (ix2 r k)) (fun k => g (ix2 0 k)) (fun k n => wgu (ix2 k n)) fun j l => wd (ix2 j l))
          (fun l => gf (ix2 0 l)) l := by
  unfold out0_5
  frame_out
  rw [norm_at]
  simp only [row_at]
  pointwise
  rfl

variable (m : (ℓ : Loc nD τ sig) → Buf (Elt Ideal) ℓ)

/-- Where each window's block lies at each grid point: the rows' tiles in order, and the weights whole. -/
theorem idx : ∀ t : Fin cfg0.N, (win0_0.index t = ![t.val, 0] ∧ win0_5.index t = ![t.val, 0])
    ∧ win0_1.index t = ![0, 0] ∧ win0_2.index t = ![0, 0] ∧ win0_3.index t = ![0, 0] ∧ win0_4.index t = ![0, 0] :=
  (by decide +kernel : ∀ t : Fin grid0.N, _)

theorem t_lt (t : Fin cfg0.N) : t.val < 32 := t.isLt

/-- The sequence that row `r` of point `t`'s tile belongs to, and its place there. -/
abbrev sq (t : Fin cfg0.N) (r : Fin 512) : Fin 8 := ⟨(512 * t.val + r.val) / 2048, by have := t_lt t; omega⟩
abbrev tk (t : Fin cfg0.N) (r : Fin 512) : Fin 2048 := ⟨(512 * t.val + r.val) % 2048, by omega⟩

theorem blk0 (c : Dev nD) (t : Fin cfg0.N) (r : Fin 512) (k : Fin 1024) :
    (iblk m c 0 t : FVec Ideal S512x1024 .f32) (ix2 r k)
      = (m ((c : Thread nD τ).loc main_arg0) : FVec Ideal S8x2048x1024 .f32) (ix3 (sq t r) (tk t r) k) := by
  blk_simp [iblk, idx t]
  entry_read
  pointwise
  blk_ext [idx t]

theorem blk1 (c : Dev nD) (t : Fin cfg0.N) (k : Fin 1024) :
    (iblk m c 1 t : FVec Ideal S1x1024 .f32) (ix2 0 k)
      = (m ((c : Thread nD τ).loc main_arg1) : FVec Ideal S1x1024 .f32) (ix2 0 k) := by
  blk_simp [iblk, idx t]
  entry_read
  pointwise
  blk_ext [idx t]

theorem blk2 (c : Dev nD) (t : Fin cfg0.N) (k : Fin 1024) (n : Fin 5632) :
    (iblk m c 2 t : FVec Ideal S1024x5632 .bf16) (ix2 k n)
      = (m ((c : Thread nD τ).loc main_arg2) : FVec Ideal S1x1024x5632 .f32) (ix3 0 k n) := by
  blk_simp [iblk, idx t]
  entry_read
  pointwise
  blk_ext [idx t]

theorem blk3 (c : Dev nD) (t : Fin cfg0.N) (j : Fin 2816) (l : Fin 1024) :
    (iblk m c 3 t : FVec Ideal S2816x1024 .bf16) (ix2 j l)
      = (m ((c : Thread nD τ).loc main_arg3) : FVec Ideal S1x2816x1024 .f32) (ix3 0 j l) := by
  blk_simp [iblk, idx t]
  entry_read
  pointwise
  blk_ext [idx t]

theorem blk4 (c : Dev nD) (t : Fin cfg0.N) (k : Fin 1024) :
    (iblk m c 4 t : FVec Ideal S1x1024 .f32) (ix2 0 k)
      = (m ((c : Thread nD τ).loc main_arg4) : FVec Ideal S1024 .f32) (ix1 k) := by
  blk_simp [iblk, idx t]
  entry_read
  pointwise
  blk_ext [idx t]

/-- The array the kernel leaves, from the arguments. -/
def G (c : Dev nD) : FVec Ideal S16384x1024 .f32 := fun i =>
  ffnArg (m ((c : Thread nD τ).loc main_arg0)) (m ((c : Thread nD τ).loc main_arg1))
    (m ((c : Thread nD τ).loc main_arg2)) (m ((c : Thread nD τ).loc main_arg3)) (m ((c : Thread nD τ).loc main_arg4))
    ⟨(i 0).val / 2048, by have : (i 0).val < 16384 := (i 0).isLt; omega⟩ ⟨(i 0).val % 2048, by omega⟩ (i 1)

/-- What grid point `t` stores is its tile of that array. -/
theorem point (c : Dev nD) (t : Fin cfg0.N) (r : Fin 512) (l : Fin 1024) :
    out0_5 (iblk m c 0 t) (iblk m c 1 t) (iblk m c 2 t) (iblk m c 3 t) (iblk m c 4 t) (ix2 r l)
      = G m c (ix2 ⟨512 * t.val + r.val, by have := t_lt t; omega⟩ l) := by
  refine (out_at _ _ _ _ _ r l).trans ?_
  simp only [blk0, blk1, blk2, blk3, blk4]
  rfl

theorem final (c : Dev nD) : (dats m 0 c).arrAt 5 (cfgs 0).N = G m c := by
  refine (dats m 0 c).arrAt_eq_of_covers 5 _ (by decide +kernel) fun t _ y => ?_
  blk_simp
  rw [after0_5]
  obtain ⟨r, l, rfl⟩ : ∃ (r : Fin 512) (l : Fin 1024), y = ix2 r l := ⟨y 0, y 1, eq_ix2 y⟩
  refine (point m c t r l).trans (congrArg (G m c) ?_)
  blk_ext [idx t]

end Cert.FfnBlocks

end
-- ==== Proof.FfnRef.lean ====
/- The gated unit's reference, read at one word. -/
module

public import proofs.«01_k».proof.Proof.LayerMath
public import proofs.«01_k».proof.Proof.Gen.FfnRefIdeal.Read
public import Idealize.ShloMosaic.Lib.Pipeline.ValueKit

@[expose] public section

set_option maxRecDepth 16384

noncomputable section

namespace Cert.FfnRead

open Idealize.ShloMosaic Cert.FfnRefIdeal Cert.FfnRefIdeal.Gen Cert.FfnRefIdeal.Read Cert.Math

variable (x : FVec Ideal S8x2048x1024 .f32) (g : FVec Ideal S1x1024 .f32) (wgu : FVec Ideal S1x1024x5632 .f32)
  (wd : FVec Ideal S1x2816x1024 .f32) (gf : FVec Ideal S1024 .f32) (b : Fin 8) (t : Fin 2048)

theorem norm_at (k : Fin 1024) : (val_main_v13 (F := Ideal) x g : FVec Ideal S8x2048x1024 .f32) (ix3 b t k)
      = rms1024 (fun j => x (ix3 b t j)) (fun j => g (ix2 0 j)) k := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  rfl

theorem proj_at (n : Fin 5632) : (val_main_v15 (F := Ideal) x g wgu : FVec Ideal S8x2048x5632 .f32) (ix3 b t n)
      = dot (rms1024 (fun j => x (ix3 b t j)) fun j => g (ix2 0 j)) fun k => wgu (ix3 0 k n) := by
  unfold val_main_v15 val_main_v14
  pointwise
  simp only [norm_at]
  rfl

theorem gated_at (j : Fin 2816) : (val_main_v19 (F := Ideal) x g wgu : FVec Ideal S8x2048x2816 .f32) (ix3 b t j)
      = silu (dot (rms1024 (fun j => x (ix3 b t j)) fun j => g (ix2 0 j)) fun k => wgu (ix3 0 k ⟨j.val, by omega⟩))
        * dot (rms1024 (fun j => x (ix3 b t j)) fun j => g (ix2 0 j)) fun k => wgu (ix3 0 k ⟨2816 + j.val, by omega⟩) := by
  unfold val_main_v19 val_main_v18 val_main_call0_v5 val_main_call0_v4 val_main_call0_v3 val_main_call0_v2
    val_main_call0_v1 val_main_call0_v0 val_main_v17 val_main_v16 val_main_call0_cst val_main_call0_cst_0
  pointwise
  simp only [proj_at]
  rfl

theorem row_at (l : Fin 1024) : (val_main_v22 (F := Ideal) x g wgu wd : FVec Ideal S8x2048x1024 .f32) (ix3 b t l)
      = ffnRow (fun k => x (ix3 b t k)) (fun k => g (ix2 0 k)) (fun k n => wgu (ix3 0 k n)) (fun j l => wd (ix3 0 j l)) l := by
  unfold val_main_v22 val_main_v21 val_main_v20
  pointwise
  simp only [gated_at]
  rfl

theorem norm_final_at (l : Fin 1024) :
    (val_main_v35 (F := Ideal) x g wgu wd gf : FVec Ideal S8x2048x1024 .f32) (ix3 b t l) = ffnArg x g wgu wd gf b t l := by
  unfold val_main_v35 val_main_v34 val_main_v33 val_main_v32 val_main_v31 val_main_v30 val_main_v29 val_main_v28
    val_main_v27 val_main_v26 val_main_v25 val_main_v24 val_main_v23 val_main_cst_2 val_main_cst_3 val_main_cst_4
  pointwise
  simp only [row_at]
  rfl

theorem out_at (i : S16384x1024.Idx) : val_main_v36 (F := Ideal) x g wgu wd gf i
      = ffnArg x g wgu wd gf ⟨(i 0).val / 2048, by have : (i 0).val < 16384 := (i 0).isLt; omega⟩
          ⟨(i 0).val % 2048, by omega⟩ (i 1) := by
  obtain ⟨n, l, rfl⟩ : ∃ (n : Fin 16384) (l : Fin 1024), i = ix2 n l := ⟨i 0, i 1, eq_ix2 i⟩
  unfold val_main_v36
  pointwise
  exact norm_final_at x g wgu wd gf _ _ l

end Cert.FfnRead

end
-- ==== Proof.FfnClaim.lean ====
/- The claims of the gated unit: the frames of its three programs, the named constant, and the equality of the results. -/
module

public import proofs.«01_k».proof.Defs
public import proofs.«01_k».proof.Proof.Gen.Ffn.Frame
public import proofs.«01_k».proof.Proof.Gen.FfnRefIdeal.Run
public import proofs.«01_k».proof.Proof.FfnBlocks
public import proofs.«01_k».proof.Proof.FfnRef

@[expose] public section

set_option maxRecDepth 16384

noncomputable section

namespace Cert.FfnClaim

open Idealize.ShloMosaic Idealize.ShloMosaic.TcCoe Idealize.SL.Sem Cert.Math

attribute [local instance] Cert.Ffn.Gen.facts Cert.FfnIdeal.Gen.facts Cert.FfnRefIdeal.Gen.facts

theorem frame_kernel : Cert.quiescent_Ffn := fun m g _ => Cert.Ffn.Gen.frame m g

theorem frame_ideal : Cert.quiescent_FfnIdeal := fun m g _ => Cert.FfnIdeal.Gen.frame m g

/-- The reference declares no semaphore. -/
theorem frame_ref : Cert.quiescent_FfnRefIdeal := fun m g _ =>
  (θ_run _ _ _).mono (fun r h => ⟨fun c => (h c).2, Idealize.ShloMosaic.sem_eq_zero_of_no_sems (by decide) r.2⟩)
    (Cert.FfnRefIdeal.Value.run m g)

theorem preserves : Cert.preserves_Ffn_FfnIdeal :=
  IdealRules.named_const.statement Cert.FfnIdeal.κ "neg_log2e" .f32 0xBFB8AA3B#32 _ rfl

theorem algebraic : Cert.algebraic_FfnIdeal_FfnRefIdeal := by
  pair_intro
  · run_from Cert.FfnIdeal.Gen.run_main m g
  · run_from Cert.FfnRefIdeal.Value.run m' g'
    obtain ⟨h0, h1, h2, h3, h4⟩ := hagree c
    rw [FfnBlocks.final, FfnRefIdeal.Read.val_main_v36_eq, h0, h1, h2, h3, h4]
    funext i
    exact FfnRead.out_at _ _ _ _ _ i

end Cert.FfnClaim

end
-- ==== Proof.MemKvBlocks.lean ====
/- The memory projection's body, read at one word of each block it stores, the blocks it reads at a grid point, as words
   of the arguments, and the two arrays it leaves. -/
module

public import proofs.«01_k».proof.Proof.LayerMath
public import proofs.«01_k».proof.Proof.Gen.MemKvIdeal.Value
public import Idealize.ShloMosaic.Lib.Pipeline.ValueKit
public import Idealize.ShloMosaic.Lib.Claim

@[expose] public section

set_option maxRecDepth 16384

noncomputable section

namespace Cert.MemKvBlocks

open Idealize.ShloMosaic Idealize.ShloMosaic.TcCoe Idealize.SL.Sem Cert.MemKvIdeal Cert.MemKvIdeal.Gen Cert.Math
open Idealize.ShloMosaic.Pipeline (Dat)

section
variable (x : FVec Ideal S512x1024 .f32) (g : FVec Ideal S1x1024 .f32)

theorem half_at (w : FVec Ideal S1024x512 .bf16) (r l : Fin 512) :
    k0_pay2 (F := Ideal) x g w (ix2 r l)
      = dot (rms1024 (fun k => x (ix2 r k)) fun k => g (ix2 0 k)) fun k => w (ix2 k l) := by
  pointwise [k0_pay2, k0_pay1]
  rfl

theorem keys_at (w : FVec Ideal S1024x1024 .bf16) (r l : Fin 512) :
    out0_3 (F := Ideal) x g w (ix2 r l)
      = dot (rms1024 (fun k => x (ix2 r k)) fun k => g (ix2 0 k)) fun k => w (ix2 k ⟨l.val, by omega⟩) := by
  unfold out0_3
  frame_out
  rw [half_at]
  pointwise

theorem values_at (w : FVec Ideal S1024x1024 .bf16) (r l : Fin 512) :
    out0_4 (F := Ideal) x g w (ix2 r l)
      = dot (rms1024 (fun k => x (ix2 r k)) fun k => g (ix2 0 k)) fun k => w (ix2 k ⟨512 + l.val, by omega⟩) := by
  unfold out0_4
  frame_out
  refine (half_at x g _ r l).trans ?_
  pointwise

end

variable (m : (ℓ : Loc nD τ sig) → Buf (Elt Ideal) ℓ)

/-- Where each window's block lies at each grid point: the rows' tiles in order, and the weights whole. -/
theorem idx : ∀ t : Fin cfg0.N, (win0_0.index t = ![t.val, 0] ∧ win0_3.index t = ![t.val, 0] ∧ win0_4.index t = ![t.val, 0])
    ∧ win0_1.index t = ![0, 0] ∧ win0_2.index t = ![0, 0] :=
  (by decide +kernel : ∀ t : Fin grid0.N, _)

theorem t_lt (t : Fin cfg0.N) : t.val < 4 := t.isLt

/-- The sequence that row `r` of point `t`'s tile belongs to, and its place there. -/
abbrev sq (t : Fin cfg0.N) (r : Fin 512) : Fin 8 := ⟨(512 * t.val + r.val) / 256, by have := t_lt t; omega⟩
abbrev tk (t : Fin cfg0.N) (r : Fin 512) : Fin 256 := ⟨(512 * t.val + r.val) % 256, by omega⟩

theorem blk0 (c : Dev nD) (t : Fin cfg0.N) (r : Fin 512) (k : Fin 1024) :
    (iblk m c 0 t : FVec Ideal S512x1024 .f32) (ix2 r k)
      = (m ((c : Thread nD τ).loc main_arg0) : FVec Ideal S8x256x1024 .f32) (ix3 (sq t r) (tk t r) k) := by
  blk_simp [iblk, idx t]
  entry_read
  pointwise
  blk_ext [idx t]

theorem blk1 (c : Dev nD) (t : Fin cfg0.N) (k : Fin 1024) :
    (iblk m c 1 t : FVec Ideal S1x1024 .f32) (ix2 0 k)
      = (m ((c : Thread nD τ).loc main_arg1) : FVec Ideal S1x1024 .f32) (ix2 0 k) := by
  blk_simp [iblk, idx t]
  entry_read
  pointwise
  blk_ext [idx t]

theorem blk2 (c : Dev nD) (t : Fin cfg0.N) (k n : Fin 1024) :
    (iblk m c 2 t : FVec Ideal S1024x1024 .bf16) (ix2 k n)
      = (m ((c : Thread nD τ).loc main_arg2) : FVec Ideal S1x1024x1024 .f32) (ix3 0 k n) := by
  blk_simp [iblk, idx t]
  entry_read
  pointwise
  blk_ext [idx t]

/-- The arrays the kernel leaves, from the arguments: the columns from `o` on of the projection. -/
def G (o : ℕ) (ho : o ≤ 512) (c : Dev nD) : FVec Ideal S2048x512 .f32 := fun i =>
  kvArg (m ((c : Thread nD τ).loc main_arg0)) (m ((c : Thread nD τ).loc main_arg1)) (m ((c : Thread nD τ).loc main_arg2))
    ⟨(i 0).val / 256, by have : (i 0).val < 2048 := (i 0).isLt; omega⟩ ⟨(i 0).val % 256, by omega⟩
    ⟨o + (i 1).val, by have : (i 1).val < 512 := (i 1).isLt; omega⟩

/-- What grid point `t` stores is its tile of those arrays. -/
theorem point_keys (c : Dev nD) (t : Fin cfg0.N) (r l : Fin 512) :
    out0_3 (iblk m c 0 t) (iblk m c 1 t) (iblk m c 2 t) (ix2 r l)
      = G m 0 (by decide) c (ix2 ⟨512 * t.val + r.val, by have := t_lt t; omega⟩ l) := by
  refine (keys_at _ _ _ r l).trans ?_
  simp only [blk0, blk1, blk2]
  unfold G kvArg
  simp

theorem point_values (c : Dev nD) (t : Fin cfg0.N) (r l : Fin 512) :
    out0_4 (iblk m c 0 t) (iblk m c 1 t) (iblk m c 2 t) (ix2 r l)
      = G m 512 (by decide) c (ix2 ⟨512 * t.val + r.val, by have := t_lt t; omega⟩ l) := by
  refine (values_at _ _ _ r l).trans ?_
  simp only [blk0, blk1, blk2]
  rfl

theorem final_keys (c : Dev nD) : (dats m 0 c).arrAt 3 (cfgs 0).N = G m 0 (by decide) c := by
  refine (dats m 0 c).arrAt_eq_of_covers 3 _ (by decide +kernel) fun t _ y => ?_
  blk_simp
  rw [after0_3]
  obtain ⟨r, l, rfl⟩ : ∃ r l : Fin 512, y = ix2 r l := ⟨y 0, y 1, eq_ix2 y⟩
  refine (point_keys m c t r l).trans (congrArg (G m 0 _ c) ?_)
  blk_ext [idx t]

theorem final_values (c : Dev nD) : (dats m 0 c).arrAt 4 (cfgs 0).N = G m 512 (by decide) c := by
  refine (dats m 0 c).arrAt_eq_of_covers 4 _ (by decide +kernel) fun t _ y => ?_
  blk_simp
  rw [after0_4]
  obtain ⟨r, l, rfl⟩ : ∃ r l : Fin 512, y = ix2 r l := ⟨y 0, y 1, eq_ix2 y⟩
  refine (point_values m c t r l).trans (congrArg (G m 512 _ c) ?_)
  blk_ext [idx t]

end Cert.MemKvBlocks

end
-- ==== Proof.MemKvRef.lean ====
/- The memory projection's reference, read at one word of each of its two results. -/
module

public import proofs.«01_k».proof.Proof.LayerMath
public import proofs.«01_k».proof.Proof.Gen.MemKvRefIdeal.Read
public import Idealize.ShloMosaic.Lib.Pipeline.ValueKit

@[expose] public section

set_option maxRecDepth 16384

noncomputable section

namespace Cert.MemKvRead

open Idealize.ShloMosaic Cert.MemKvRefIdeal Cert.MemKvRefIdeal.Gen Cert.MemKvRefIdeal.Read Cert.Math

variable (x : FVec Ideal S8x256x1024 .f32) (g : FVec Ideal S1x1024 .f32) (w : FVec Ideal S1x1024x1024 .f32)

theorem norm_at (b : Fin 8) (t : Fin 256) (k : Fin 1024) :
    (val_main_v13 (F := Ideal) x g : FVec Ideal S8x256x1024 .f32) (ix3 b t k)
      = rms1024 (fun j => x (ix3 b t j)) (fun j => g (ix2 0 j)) k := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  rfl

theorem proj_at (b : Fin 8) (t : Fin 256) (n : Fin 1024) :
    (val_main_v15 (F := Ideal) x g w : FVec Ideal S8x256x1024 .f32) (ix3 b t n) = kvArg x g w b t n := by
  unfold val_main_v15 val_main_v14
  pointwise
  simp only [norm_at]
  rfl

theorem keys_at (i : S2048x512.Idx) : val_main_v18 (F := Ideal) x g w i
      = kvArg x g w ⟨(i 0).val / 256, by have : (i 0).val < 2048 := (i 0).isLt; omega⟩ ⟨(i 0).val % 256, by omega⟩
          ⟨0 + (i 1).val, by have : (i 1).val < 512 := (i 1).isLt; omega⟩ := by
  obtain ⟨n, l, rfl⟩ : ∃ (n : Fin 2048) (l : Fin 512), i = ix2 n l := ⟨i 0, i 1, eq_ix2 i⟩
  unfold val_main_v18 val_main_v16
  pointwise
  exact proj_at x g w _ _ _

theorem values_at (i : S2048x512.Idx) : val_main_v19 (F := Ideal) x g w i
      = kvArg x g w ⟨(i 0).val / 256, by have : (i 0).val < 2048 := (i 0).isLt; omega⟩ ⟨(i 0).val % 256, by omega⟩
          ⟨512 + (i 1).val, by have : (i 1).val < 512 := (i 1).isLt; omega⟩ := by
  obtain ⟨n, l, rfl⟩ : ∃ (n : Fin 2048) (l : Fin 512), i = ix2 n l := ⟨i 0, i 1, eq_ix2 i⟩
  unfold val_main_v19 val_main_v17
  pointwise
  exact proj_at x g w _ _ _

end Cert.MemKvRead

end
-- ==== Proof.MemKvClaim.lean ====
/- The claims of the memory projection: the frames of its three programs and the equality of the two results. -/
module

public import proofs.«01_k».proof.Defs
public import proofs.«01_k».proof.Proof.Gen.MemKv.Frame
public import proofs.«01_k».proof.Proof.Gen.MemKvRefIdeal.Run
public import proofs.«01_k».proof.Proof.MemKvBlocks
public import proofs.«01_k».proof.Proof.MemKvRef

@[expose] public section

set_option maxRecDepth 16384

noncomputable section

namespace Cert.MemKvClaim

open Idealize.ShloMosaic Idealize.ShloMosaic.TcCoe Idealize.SL.Sem Cert.Math

attribute [local instance] Cert.MemKv.Gen.facts Cert.MemKvIdeal.Gen.facts Cert.MemKvRefIdeal.Gen.facts

theorem frame_kernel : Cert.quiescent_MemKv := fun m g _ => Cert.MemKv.Gen.frame m g

theorem frame_ideal : Cert.quiescent_MemKvIdeal := fun m g _ => Cert.MemKvIdeal.Gen.frame m g

/-- The reference declares no semaphore. -/
theorem frame_ref : Cert.quiescent_MemKvRefIdeal := fun m g _ =>
  (θ_run _ _ _).mono (fun r h => ⟨fun c => (h c).2.2, Idealize.ShloMosaic.sem_eq_zero_of_no_sems (by decide) r.2⟩)
    (Cert.MemKvRefIdeal.Value.run m g)

/-- No operation is replaced and no constant is named. -/
theorem preserves : Cert.preserves_MemKv_MemKvIdeal := trivial

theorem algebraic : Cert.algebraic_MemKvIdeal_MemKvRefIdeal := by
  pair_intro
  · run_from Cert.MemKvIdeal.Gen.run_main m g
  · run_from Cert.MemKvRefIdeal.Value.run m' g'
    · rw [MemKvBlocks.final_keys, MemKvRefIdeal.Read.val_main_v18_eq]
      funext i
      exact MemKvRead.keys_at _ _ _ i
    · rw [MemKvBlocks.final_values, MemKvRefIdeal.Read.val_main_v19_eq]
      funext i
      exact MemKvRead.values_at _ _ _ i

end Cert.MemKvClaim

end
-- ==== Proof.ProjMath.lean ====
/- What the input projection computes from its columns: the gate of the spatial unit, its normed values, and their mixing
   along a block of 128 rows. -/
module

public import proofs.«01_k».proof.Proof.LayerMath

@[expose] public section

noncomputable section

namespace Cert.Math

open Idealize.ShloMosaic

/-- The gaussian gate in its `tanh` form. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

/-- Column `n` of the projection of a row. -/
def projCol (x : Fin 1024 → EReal) (g : FVec Ideal ⟨2, ![1, 1024]⟩ .f32) (w : FVec Ideal ⟨3, ![1, 1024, 8720]⟩ .f32)
    (n : Fin 8720) : EReal :=
  dot (rms1024 x fun k => g (ix2 0 k)) fun k => w (ix3 0 k n)

/-- The spatial unit's values of a row: the gated columns, divided by their root mean square, times the gain. -/
def values (z g : Fin 512 → EReal) : Fin 512 → EReal :=
  rms (Ideal.ofBits .f32 0x44000000#32) (Ideal.ofBits .f32 0x358637BD#32) (fun i => gelu (z i)) g

/-- Word `i` of a row of the spatial unit, in a block of 128 rows: the row's gate times the mixed values. The rows
    mixed are those where `keep` is true. -/
def mix (keep : Fin 128 → Bool) (u : EReal) (w : Fin 128 → EReal) (v : Fin 128 → EReal) (b : EReal) : EReal :=
  u * ((∑ s, if keep s then w s * v s else 0) + b)

/-- A factor whose weight is dropped drops out of the sum. -/
theorem dropped (c : Prop) [Decidable c] (z y : EReal) : z * (if c then y else 0) = if c then y * z else 0 := by
  split
  · exact mul_comm z y
  · exact mul_zero z

/-- The same in a sequence of 8 rows, at row `t`: the rows mixed are those up to it. -/
def mixShort (t : Fin 8) (u : EReal) (w v : Fin 8 → EReal) (b : EReal) : EReal :=
  u * ((∑ s, if s ≤ t then w s * v s else 0) + b)

/-- Sixteen sequences of 8 rows in a block of 128: the rows of the same sequence, up to the row itself. -/
abbrev keepShort (p s : Fin 128) : Bool := p.val / 8 = s.val / 8 ∧ s.val ≤ p.val

/-- Mixed in a block, each sequence is mixed by itself. -/
theorem mix_short (p : Fin 128) (u : EReal) (w v : Fin 128 → EReal) (b : EReal) :
    mix (keepShort p) u w v b = mixShort ⟨p.val % 8, by omega⟩ u (fun s => w ⟨8 * (p.val / 8) + s.val, by omega⟩)
      (fun s => v ⟨8 * (p.val / 8) + s.val, by omega⟩) b := by
  unfold mix mixShort
  refine congrArg (fun z => u * (z + b)) (Finset.sum_of_injOn
    (fun s : Fin 8 => (⟨8 * (p.val / 8) + s.val, by omega⟩ : Fin 128)) ?_ ?_ ?_ ?_).symm
  · intro a _ c _ h
    have := congrArg Fin.val h
    exact Fin.ext (by simpa using this)
  · intro a _
    exact Finset.mem_coe.mpr (Finset.mem_univ _)
  · intro s _ hs
    refine if_neg fun hk => hs ⟨⟨s.val % 8, by omega⟩, Finset.mem_coe.mpr (Finset.mem_univ _), Fin.ext ?_⟩
    have hk := of_decide_eq_true hk
    show 8 * (p.val / 8) + s.val % 8 = s.val
    omega
  · intro s _
    refine if_congr ?_ rfl rfl
    show s.val ≤ p.val % 8 ↔ _
    refine Iff.trans ?_ decide_eq_true_iff.symm
    show s.val ≤ p.val % 8 ↔ p.val / 8 = (8 * (p.val / 8) + s.val) / 8 ∧ 8 * (p.val / 8) + s.val ≤ p.val
    omega

end Cert.Math

end
-- ==== Proof.ProjSPay.lean ====
/- The sample projection's body, read at one word of each block it stores. -/
module

public import proofs.«01_k».proof.Proof.ProjMath
public import proofs.«01_k».proof.Proof.Gen.ProjSIdeal.Frame
public import Idealize.ShloMosaic.Lib.Pipeline.ValueKit

@[expose] public section

set_option maxRecDepth 16384

noncomputable section

namespace Cert.ProjSPay

open Idealize.ShloMosaic Idealize.ShloMosaic.TcCoe Cert.ProjSIdeal Cert.ProjSIdeal.Gen Cert.Math

section
variable (x : FVec Ideal S512x1024 .f32) (g : FVec Ideal S1x1024 .f32)

/-- Row `r` of the tile, normed. -/
abbrev xn (r : Fin 512) : Fin 1024 → EReal := rms1024 (fun k => x (ix2 r k)) fun k => g (ix2 0 k)

theorem norm_at (r : Fin 512) (k : Fin 1024) : k0_pay5 (F := Ideal) x g (ix2 r k) = xn x g r k := by
  pointwise [k0_pay5]
  rfl

theorem qkv_at (w : FVec Ideal S3072x1024 .bf16) (r : Fin 512) (n : Fin 3072) :
    k0_pay6 (F := Ideal) x g w (ix2 r n) = dot (xn x g r) fun k => w (ix2 n k) := by
  pointwise [k0_pay6]
  simp only [norm_at]
  rfl

theorem z_at (w : FVec Ideal S1024x1024 .bf16) (r : Fin 512) (n : Fin 1024) :
    k0_pay7 (F := Ideal) x g w (ix2 r n) = silu (dot (xn x g r) fun k => w (ix2 n k)) := by
  pointwise [k0_pay7]
  simp only [gate (κ := κ) rfl, norm_at]
  rfl

end

section
variable (a : FVec Ideal S512x1024 .bf16)

theorem qm_at (w : FVec Ideal S512x1024 .bf16) (r n : Fin 512) :
    k0_pay8 (F := Ideal) a w (ix2 r n) = dot (fun k => a (ix2 r k)) fun k => w (ix2 n k) := by
  pointwise [k0_pay8]
  rfl

theorem ba_at (w : FVec Ideal S128x1024 .bf16) (r : Fin 512) (n : Fin 128) :
    k0_pay9 (F := Ideal) a w (ix2 r n) = dot (fun k => a (ix2 r k)) fun k => w (ix2 n k) := by
  pointwise [k0_pay9]
  rfl

theorem u_at (w : FVec Ideal S512x1024 .bf16) (r n : Fin 512) :
    k0_pay10 (F := Ideal) a w (ix2 r n) = gelu (dot (fun k => a (ix2 r k)) fun k => w (ix2 n k)) := by
  pointwise [k0_pay10]
  rfl

theorem col_at (w : FVec Ideal S512x1024 .bf16) (r n : Fin 512) :
    k0_pay11 (F := Ideal) a w (ix2 r n) = dot (fun k => a (ix2 r k)) fun k => w (ix2 n k) := by
  pointwise [k0_pay11]
  rfl

theorem v_at (w : FVec Ideal S512x1024 .bf16) (gs : FVec Ideal S1x512 .f32) (r n : Fin 512) :
    k0_pay13 (F := Ideal) (k0_pay11 a w) (k0_pay12 a w) (Ideal.ofBits .f32 0x3F000000#32) gs (ix2 r n)
      = values (fun i => dot (fun k => a (ix2 r k)) fun k => w (ix2 i k)) (fun i => gs (ix2 0 i)) n := by
  pointwise [k0_pay13, k0_pay12]
  simp only [col_at]
  rfl

end

theorem keep_at (p s : Fin 128) (a : EReal) :
    Scalar.select (k0_pay14 (ix2 p s)) a 0 = if keepShort p s then a else 0 := by
  have h8 : ∀ p : Fin 128, IntOp.shrsi .vector (BitVec.ofNat 32 p.val) 3#32 = BitVec.ofNat 32 (p.val / 8) := by decide +kernel
  have key : k0_pay14 (ix2 p s) = BitVec.ofBool (keepShort p s) := by
    pointwise [k0_pay14]
    simp only [h8]
    rw [WordCmp.cmpi_sge_ofNat (by omega) (by omega), WordCmp.cmpi_eq_ofNat (by omega) (by omega)]
    unfold keepShort
    by_cases h1 : p.val / 8 = s.val / 8 <;> by_cases h2 : s.val ≤ p.val <;> simp only [h1, h2] <;> rfl
  rw [key]
  cases keepShort p s <;> rfl

/-- Row `r` among the rows of its block of 128, and the row of that block at `s`. -/
abbrev lo (r : Fin 512) : Fin 128 := ⟨r.val % 128, by omega⟩
abbrev hi (i : Fin 512) : Fin 4 := ⟨i.val / 128, by omega⟩
abbrev beside (r : Fin 512) (s : Fin 128) : Fin 512 := ⟨128 * (r.val / 128) + s.val, by omega⟩

section
variable (x0 : FVec Ideal S512x1024 .f32) (x1 : FVec Ideal S1x1024 .f32) (x2 : FVec Ideal S4096x1024 .bf16)
  (x3 : FVec Ideal S1552x1024 .bf16) (x4 : FVec Ideal S1x512 .f32) (x5 : FVec Ideal S4x128x128 .f32)
  (x6 : FVec Ideal S128x4 .f32)

/-- The stored block's word, from the gate and the values the body computes. -/
def tiles (y : S512x512.Idx) : EReal :=
  mix (keepShort (lo (y 0))) (k0_pay38 (F := Ideal) x0 x1 x2 x3 x4 x5 x6 y) (fun s => x5 (ix3 (hi (y 1)) (lo (y 0)) s))
    (fun s => k0_pay43 (F := Ideal) x0 x1 x2 x3 x4 x5 x6 (ix2 (beside (y 0) s) (y 1))) (x6 (ix2 (lo (y 0)) (hi (y 1))))

theorem osg_tiles (y : S512x512.Idx) : out0_10 (F := Ideal) x0 x1 x2 x3 x4 x5 x6 y = tiles x0 x1 x2 x3 x4 x5 x6 y := by
  unfold out0_10
  canon_tiles x h
  all_goals
    pointwise [k0_pay1, k0_pay2, k0_pay3, k0_pay4, k0_pay15, k0_pay17, k0_pay18, k0_pay19, k0_pay20, k0_pay21, k0_pay22,
      k0_pay23, k0_pay24, k0_pay25, k0_pay26, k0_pay27, k0_pay28, k0_pay29, k0_pay30, k0_pay31, k0_pay32, k0_pay33,
      k0_pay34, k0_pay35, k0_pay36, k0_pay41, k0_pay42, k0_pay44, k0_pay45, k0_pay46, k0_pay47]
    unfold tiles mix
    refine congrArg₂ (· * ·) ?_ (congrArg₂ (· + ·) (Finset.sum_congr rfl fun s _ => ?_) ?_)
  all_goals first
    | blk_ext; done
    | have e : x 0 = lo (y 0) := Fin.ext (by show (x 0 : ℕ) = (y 0 : ℕ) % 128; omega)
      refine (keep_at _ s _).trans (if_congr (iff_of_eq (congrArg (fun r => keepShort r s = true) e)) (congrArg₂ (· * ·) ?_ ?_) rfl)
      · blk_ext
      · first | (blk_ext; done) | (unfold k0_pay43; blk_ext; done)
/-- Column `n` of the product with the second window's weights. -/
abbrev colB (r : Fin 512) (n : Fin 1552) : EReal := dot (xn x0 x1 r) fun k => x3 (ix2 n k)

theorem out7_at (r : Fin 512) (n : Fin 3072) : out0_7 (F := Ideal) x0 x1 x2 x3 x4 x5 x6 (ix2 r n)
      = dot (xn x0 x1 r) fun k => x2 (ix2 ⟨n.val, by omega⟩ k) := by
  unfold_out out0_7
  frame_out
  refine (qkv_at _ _ _ r n).trans ?_
  pointwise

theorem out8_at (r : Fin 512) (n : Fin 1024) : out0_8 (F := Ideal) x0 x1 x2 x3 x4 x5 x6 (ix2 r n)
      = silu (dot (xn x0 x1 r) fun k => x2 (ix2 ⟨3072 + n.val, by omega⟩ k)) := by
  unfold_out out0_8
  frame_out
  refine (z_at _ _ _ r n).trans ?_
  pointwise

theorem out9_at (r : Fin 512) (n : Fin 128) : out0_9 (F := Ideal) x0 x1 x2 x3 x4 x5 x6 (ix2 r n)
      = colB x0 x1 x3 r ⟨n.val, by omega⟩ := by
  unfold_out out0_9
  frame_out
  refine (ba_at _ _ r n).trans ?_
  pointwise
  simp only [norm_at]

theorem out11_at (r n : Fin 512) : out0_11 (F := Ideal) x0 x1 x2 x3 x4 x5 x6 (ix2 r n)
      = colB x0 x1 x3 r ⟨1040 + n.val, by omega⟩ := by
  unfold_out out0_11
  frame_out
  refine (qm_at _ _ r n).trans ?_
  pointwise
  simp only [norm_at]

/-- The values of row `r`. -/
abbrev vrow (r : Fin 512) : Fin 512 → EReal :=
  values (fun i => colB x0 x1 x3 r ⟨528 + i.val, by omega⟩) fun i => x4 (ix2 0 i)

theorem out12_at (r n : Fin 512) : out0_12 (F := Ideal) x0 x1 x2 x3 x4 x5 x6 (ix2 r n) = vrow x0 x1 x3 x4 r n := by
  unfold_out out0_12
  frame_out
  refine (v_at _ _ _ r n).trans ?_
  pointwise
  simp only [norm_at]

theorem pay43_at (r n : Fin 512) : k0_pay43 (F := Ideal) x0 x1 x2 x3 x4 x5 x6 (ix2 r n) = vrow x0 x1 x3 x4 r n := by
  unfold k0_pay43 k0_pay39 k0_pay40 k0_pay37
  pointwise [k0_pay16]
  refine (v_at _ _ _ r n).trans ?_
  simp only [norm_at]
  unfold xn
  pointwise

theorem pay38_at (r n : Fin 512) : k0_pay38 (F := Ideal) x0 x1 x2 x3 x4 x5 x6 (ix2 r n)
      = gelu (colB x0 x1 x3 r ⟨16 + n.val, by omega⟩) := by
  unfold k0_pay38 k0_pay37
  refine (u_at _ _ r n).trans ?_
  simp only [norm_at]
  unfold xn
  pointwise

theorem out10_at (r i : Fin 512) : out0_10 (F := Ideal) x0 x1 x2 x3 x4 x5 x6 (ix2 r i)
      = mix (keepShort (lo r)) (gelu (colB x0 x1 x3 r ⟨16 + i.val, by omega⟩)) (fun s => x5 (ix3 (hi i) (lo r) s))
          (fun s => vrow x0 x1 x3 x4 (beside r s) i) (x6 (ix2 (lo r) (hi i))) := by
  refine (osg_tiles x0 x1 x2 x3 x4 x5 x6 (ix2 r i)).trans ?_
  show mix (keepShort (lo r)) (k0_pay38 (F := Ideal) x0 x1 x2 x3 x4 x5 x6 (ix2 r i)) (fun s => x5 (ix3 (hi i) (lo r) s))
    (fun s => k0_pay43 (F := Ideal) x0 x1 x2 x3 x4 x5 x6 (ix2 (beside r s) i)) (x6 (ix2 (lo r) (hi i))) = _
  simp only [pay43_at, pay38_at]

end

end Cert.ProjSPay

end
-- ==== Proof.ProjSBlocks.lean ====
/- The blocks the sample projection reads at a grid point, as words of the arguments, and the arrays it leaves. -/
module

public import proofs.«01_k».proof.Proof.ProjSPay
public import proofs.«01_k».proof.Proof.Gen.ProjSIdeal.Value
public import Idealize.ShloMosaic.Lib.Claim

@[expose] public section

set_option maxRecDepth 16384

noncomputable section

namespace Cert.ProjSBlocks

open Idealize.ShloMosaic Idealize.ShloMosaic.TcCoe Idealize.SL.Sem Cert.ProjSIdeal Cert.ProjSIdeal.Gen Cert.Math Cert.ProjSPay
open Idealize.ShloMosaic.Pipeline (Dat)

variable (m : (ℓ : Loc nD τ sig) → Buf (Elt Ideal) ℓ)

/-- Where each window's block lies at each grid point: the rows' tiles in order, and the small weights whole. -/
theorem idx : ∀ t : Fin cfg0.N, (win0_0.index t = ![t.val, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0])
    ∧ win0_1.index t = ![0, 0] ∧ win0_4.index t = ![0, 0] ∧ win0_5.index t = ![0, 0, 0] ∧ win0_6.index t = ![0, 0] :=
  (by decide +kernel : ∀ t : Fin grid0.N, _)

/-- The projection's weights come in two pieces, the rows from 0 on and those from 4096 on. -/
theorem idx23 : ∀ t : Fin cfg0.N, win0_2.index t = ![0, 0] ∧ win0_3.index t = ![4096, 0] :=
  (by decide +kernel : ∀ t : Fin grid0.N, _)

/-- The element windows' blocks begin at their index maps' values. -/
theorem emb2 (t : Fin cfg0.N) (y : S4096x1024.Idx) (a : Fin 2) :
    ((((cfg0.win 2).blk t).view.emb y a : Fin _) : ℕ) = win0_2.index t a + (y a : ℕ) :=
  Pipeline.Window.rect_emb_val_off win0_2 t y a

theorem emb3 (t : Fin cfg0.N) (y : S1552x1024.Idx) (a : Fin 2) :
    ((((cfg0.win 3).blk t).view.emb y a : Fin _) : ℕ) = win0_3.index t a + (y a : ℕ) :=
  Pipeline.Window.rect_emb_val_off win0_3 t y a

theorem t_lt (t : Fin cfg0.N) : t.val < 2 := t.isLt

/-- Row `r` of point `t`'s tile among all rows; the sequence a row belongs to, and its place there. -/
abbrev row (t : Fin cfg0.N) (r : Fin 512) : Fin 1024 := ⟨512 * t.val + r.val, by have := t_lt t; omega⟩
abbrev sq (n : Fin 1024) : Fin 128 := ⟨n.val / 8, by omega⟩
abbrev tk (n : Fin 1024) : Fin 8 := ⟨n.val % 8, by omega⟩

/-- The arguments. -/
abbrev ax (c : Dev nD) : FVec Ideal S128x8x1024 .f32 := m ((c : Thread nD τ).loc main_arg0)
abbrev ag (c : Dev nD) : FVec Ideal S1x1024 .f32 := m ((c : Thread nD τ).loc main_arg1)
abbrev aw (c : Dev nD) : FVec Ideal S1x1024x8720 .f32 := m ((c : Thread nD τ).loc main_arg2)
abbrev ags (c : Dev nD) : FVec Ideal S1x512 .f32 := m ((c : Thread nD τ).loc main_arg3)
abbrev aws (c : Dev nD) : FVec Ideal S1x4x128x128 .f32 := m ((c : Thread nD τ).loc main_arg4)
abbrev abs (c : Dev nD) : FVec Ideal S1x4x128 .f32 := m ((c : Thread nD τ).loc main_arg5)

theorem blk0 (c : Dev nD) (t : Fin cfg0.N) (r : Fin 512) (k : Fin 1024) :
    (iblk m c 0 t : FVec Ideal S512x1024 .f32) (ix2 r k) = ax m c (ix3 (sq (row t r)) (tk (row t r)) k) := by
  blk_simp [iblk, idx t]
  entry_read
  pointwise
  blk_ext [idx t]

theorem blk1 (c : Dev nD) (t : Fin cfg0.N) (k : Fin 1024) :
    (iblk m c 1 t : FVec Ideal S1x1024 .f32) (ix2 0 k) = ag m c (ix2 0 k) := by
  blk_simp [iblk, idx t]
  entry_read
  pointwise
  blk_ext [idx t]

theorem blk2 (c : Dev nD) (t : Fin cfg0.N) (n : Fin 4096) (k : Fin 1024) :
    (iblk m c 2 t : FVec Ideal S4096x1024 .bf16) (ix2 n k) = aw m c (ix3 0 k ⟨n.val, by omega⟩) := by
  blk_simp [iblk]
  entry_read
  pointwise
  have e0 := emb2 t (ix2 n k) 0
  have e1 := emb2 t (ix2 n k) 1
  rw [(idx23 t).1] at e0 e1
  exact congrArg (aw m c) (congrArg₂ (ix3 (n0 := 1) (n1 := 1024) (n2 := 8720) 0)
    (Fin.ext (e1.trans (Nat.zero_add _))) (Fin.ext (e0.trans (Nat.zero_add _))))

theorem blk3 (c : Dev nD) (t : Fin cfg0.N) (n : Fin 1552) (k : Fin 1024) :
    (iblk m c 3 t : FVec Ideal S1552x1024 .bf16) (ix2 n k) = aw m c (ix3 0 k ⟨4096 + n.val, by omega⟩) := by
  blk_simp [iblk]
  entry_read
  pointwise
  have e0 := emb3 t (ix2 n k) 0
  have e1 := emb3 t (ix2 n k) 1
  rw [(idx23 t).2] at e0 e1
  exact congrArg (aw m c) (congrArg₂ (ix3 (n0 := 1) (n1 := 1024) (n2 := 8720) 0)
    (Fin.ext (e1.trans (Nat.zero_add _))) (Fin.ext e0))

theorem blk4 (c : Dev nD) (t : Fin cfg0.N) (k : Fin 512) :
    (iblk m c 4 t : FVec Ideal S1x512 .f32) (ix2 0 k) = ags m c (ix2 0 k) := by
  blk_simp [iblk, idx t]
  entry_read
  pointwise
  blk_ext [idx t]

theorem blk5 (c : Dev nD) (t : Fin cfg0.N) (h : Fin 4) (p s : Fin 128) :
    (iblk m c 5 t : FVec Ideal S4x128x128 .f32) (ix3 h p s)
      = aws m c (ix4 0 h ⟨p.val % 8, by omega⟩ ⟨s.val % 8, by omega⟩) := by
  blk_simp [iblk, idx t]
  entry_read
  pointwise
  blk_ext [idx t]

theorem blk6 (c : Dev nD) (t : Fin cfg0.N) (p : Fin 128) (h : Fin 4) :
    (iblk m c 6 t : FVec Ideal S128x4 .f32) (ix2 p h) = abs m c (ix3 0 h ⟨p.val % 8, by omega⟩) := by
  blk_simp [iblk, idx t]
  entry_read
  pointwise
  blk_ext [idx t]

/-- Column `k` of the projection at place `p` of sequence `b`, and of row `n`. -/
abbrev colAt (c : Dev nD) (b : Fin 128) (p : Fin 8) (k : Fin 8720) : EReal :=
  projCol (fun j => ax m c (ix3 b p j)) (ag m c) (aw m c) k
abbrev col (c : Dev nD) (n : Fin 1024) : Fin 8720 → EReal := colAt m c (sq n) (tk n)

theorem col_ext (c : Dev nD) (n : Fin 1024) {k l : Fin 8720} (h : k.val = l.val) : col m c n k = col m c n l :=
  congrArg (col m c n) (Fin.ext h)

/-- The values at place `p` of sequence `b`, and of row `n`. -/
abbrev valsAt (c : Dev nD) (b : Fin 128) (p : Fin 8) : Fin 512 → EReal :=
  values (fun i => colAt m c b p ⟨4624 + i.val, by omega⟩) fun i => ags m c (ix2 0 i)
abbrev vals (c : Dev nD) (n : Fin 1024) : Fin 512 → EReal := valsAt m c (sq n) (tk n)

/-- The arrays the kernel leaves, from the arguments. -/
def Gqkv (c : Dev nD) : FVec Ideal S1024x3072 .f32 := fun i => col m c (i 0) ⟨(i 1).val, by have : (i 1).val < 3072 := (i 1).isLt; omega⟩
def Gz (c : Dev nD) : FVec Ideal S1024x1024 .bf16 := fun i => silu (col m c (i 0) ⟨3072 + (i 1).val, by have : (i 1).val < 1024 := (i 1).isLt; omega⟩)
def Gba (c : Dev nD) : FVec Ideal S1024x128 .f32 := fun i => col m c (i 0) ⟨4096 + (i 1).val, by have : (i 1).val < 128 := (i 1).isLt; omega⟩
def Gqm (c : Dev nD) : FVec Ideal S1024x512 .f32 := fun i => col m c (i 0) ⟨5136 + (i 1).val, by have : (i 1).val < 512 := (i 1).isLt; omega⟩
def Gvsg (c : Dev nD) : FVec Ideal S1024x512 .f32 := fun i => vals m c (i 0) (i 1)
def osg (c : Dev nD) (n : Fin 1024) (i : Fin 512) : EReal :=
  mixShort (tk n) (gelu (col m c n ⟨4112 + i.val, by omega⟩))
    (fun s => aws m c (ix4 0 ⟨i.val / 128, by omega⟩ ⟨(tk n).val, by omega⟩ ⟨s.val, by omega⟩))
    (fun s => valsAt m c (sq n) s i) (abs m c (ix3 0 ⟨i.val / 128, by omega⟩ ⟨(tk n).val, by omega⟩))
def Gosg (c : Dev nD) : FVec Ideal S1024x512 .bf16 := fun i => osg m c (i 0) (i 1)

theorem colA_eq (c : Dev nD) (t : Fin cfg0.N) (r : Fin 512) (n : Fin 4096) :
    (dot (xn (iblk m c 0 t) (iblk m c 1 t) r) fun k => (iblk m c 2 t : FVec Ideal S4096x1024 .bf16) (ix2 n k))
      = col m c (row t r) ⟨n.val, by omega⟩ := by
  unfold xn
  simp only [blk0, blk1, blk2]
  rfl

theorem colB_eq (c : Dev nD) (t : Fin cfg0.N) (r : Fin 512) (n : Fin 1552) :
    colB (iblk m c 0 t) (iblk m c 1 t) (iblk m c 3 t) r n = col m c (row t r) ⟨4096 + n.val, by omega⟩ := by
  unfold colB xn
  simp only [blk0, blk1, blk3]
  rfl

theorem vrow_eq (c : Dev nD) (t : Fin cfg0.N) (r : Fin 512) :
    vrow (iblk m c 0 t) (iblk m c 1 t) (iblk m c 3 t) (iblk m c 4 t) r = vals m c (row t r) := by
  unfold vrow vals
  simp only [colB_eq, blk4]
  exact congrArg₂ values (funext fun i => col_ext m c _ (by show 4096 + (528 + i.val) = 4624 + i.val; omega)) rfl

theorem final7 (c : Dev nD) : (dats m 0 c).arrAt 7 (cfgs 0).N = Gqkv m c := by
  refine (dats m 0 c).arrAt_eq_of_covers 7 _ (by decide +kernel) fun t _ y => ?_
  blk_simp
  rw [after0_7]
  obtain ⟨r, l, rfl⟩ : ∃ (r : Fin 512) (l : Fin 3072), y = ix2 r l := ⟨y 0, y 1, eq_ix2 y⟩
  refine (out7_at _ _ _ _ _ _ _ r l).trans ((colA_eq m c t r _).trans ?_)
  show Gqkv m c (ix2 (row t r) l) = _
  refine congrArg (Gqkv m c) ?_
  blk_ext [idx t]

theorem final8 (c : Dev nD) : (dats m 0 c).arrAt 8 (cfgs 0).N = Gz m c := by
  refine (dats m 0 c).arrAt_eq_of_covers 8 _ (by decide +kernel) fun t _ y => ?_
  blk_simp
  rw [after0_8]
  obtain ⟨r, l, rfl⟩ : ∃ (r : Fin 512) (l : Fin 1024), y = ix2 r l := ⟨y 0, y 1, eq_ix2 y⟩
  refine (out8_at _ _ _ _ _ _ _ r l).trans ((congrArg silu (colA_eq m c t r _)).trans ?_)
  show Gz m c (ix2 (row t r) l) = _
  refine congrArg (Gz m c) ?_
  blk_ext [idx t]

theorem final9 (c : Dev nD) : (dats m 0 c).arrAt 9 (cfgs 0).N = Gba m c := by
  refine (dats m 0 c).arrAt_eq_of_covers 9 _ (by decide +kernel) fun t _ y => ?_
  blk_simp
  rw [after0_9]
  obtain ⟨r, l, rfl⟩ : ∃ (r : Fin 512) (l : Fin 128), y = ix2 r l := ⟨y 0, y 1, eq_ix2 y⟩
  refine (out9_at _ _ _ _ _ _ _ r l).trans ((colB_eq m c t r _).trans ?_)
  show Gba m c (ix2 (row t r) l) = _
  refine congrArg (Gba m c) ?_
  blk_ext [idx t]

theorem final11 (c : Dev nD) : (dats m 0 c).arrAt 11 (cfgs 0).N = Gqm m c := by
  refine (dats m 0 c).arrAt_eq_of_covers 11 _ (by decide +kernel) fun t _ y => ?_
  blk_simp
  rw [after0_11]
  obtain ⟨r, l, rfl⟩ : ∃ (r : Fin 512) (l : Fin 512), y = ix2 r l := ⟨y 0, y 1, eq_ix2 y⟩
  refine (out11_at _ _ _ _ _ _ _ r l).trans ((colB_eq m c t r _).trans ?_)
  refine (col_ext m c (row t r) (l := ⟨5136 + l.val, by omega⟩) (by show 4096 + (1040 + l.val) = 5136 + l.val; omega)).trans ?_
  show Gqm m c (ix2 (row t r) l) = _
  refine congrArg (Gqm m c) ?_
  blk_ext [idx t]

theorem final12 (c : Dev nD) : (dats m 0 c).arrAt 12 (cfgs 0).N = Gvsg m c := by
  refine (dats m 0 c).arrAt_eq_of_covers 12 _ (by decide +kernel) fun t _ y => ?_
  blk_simp
  rw [after0_12]
  obtain ⟨r, l, rfl⟩ : ∃ (r : Fin 512) (l : Fin 512), y = ix2 r l := ⟨y 0, y 1, eq_ix2 y⟩
  refine (out12_at _ _ _ _ _ _ _ r l).trans ((congrFun (vrow_eq m c t r) l).trans ?_)
  show Gvsg m c (ix2 (row t r) l) = _
  refine congrArg (Gvsg m c) ?_
  blk_ext [idx t]

theorem osg_eq (c : Dev nD) (t : Fin cfg0.N) (r i : Fin 512) :
    out0_10 (iblk m c 0 t) (iblk m c 1 t) (iblk m c 2 t) (iblk m c 3 t) (iblk m c 4 t) (iblk m c 5 t) (iblk m c 6 t) (ix2 r i)
      = osg m c (row t r) i := by
  refine (out10_at _ _ _ _ _ _ _ r i).trans ?_
  rw [mix_short]
  simp only [colB_eq, vrow_eq, blk5, blk6]
  have hr : r.val % 128 % 8 = (512 * t.val + r.val) % 8 := by omega
  have e : ∀ h, (⟨r.val % 128 % 8, h⟩ : Fin 128) = ⟨(tk (row t r)).val, by omega⟩ := fun _ => Fin.ext hr
  unfold osg
  refine congr (congr (congr (congr (congrArg mixShort (Fin.ext hr)) ?_) (funext fun s => ?_)) (funext fun s => ?_)) ?_
  · exact congrArg gelu (col_ext m c _ (by show 4096 + (16 + i.val) = 4112 + i.val; omega))
  · exact congrArg (aws m c) (congrArg₂ (ix4 0 (hi i)) (e _) (Fin.ext (by show (8 * (r.val % 128 / 8) + s.val) % 8 = s.val; omega)))
  · refine congrArg₂ (fun b p => valsAt m c b p i) (Fin.ext ?_) (Fin.ext ?_)
    · show (512 * t.val + (128 * (r.val / 128) + (8 * (r.val % 128 / 8) + s.val))) / 8 = (512 * t.val + r.val) / 8
      omega
    · show (512 * t.val + (128 * (r.val / 128) + (8 * (r.val % 128 / 8) + s.val))) % 8 = s.val
      omega
  · exact congrArg (fun p => abs m c (ix3 0 (hi i) p)) (e _)

theorem final10 (c : Dev nD) : (dats m 0 c).arrAt 10 (cfgs 0).N = Gosg m c := by
  refine (dats m 0 c).arrAt_eq_of_covers 10 _ (by decide +kernel) fun t _ y => ?_
  blk_simp
  rw [after0_10]
  obtain ⟨r, l, rfl⟩ : ∃ (r : Fin 512) (l : Fin 512), y = ix2 r l := ⟨y 0, y 1, eq_ix2 y⟩
  refine (osg_eq m c t r l).trans ?_
  show Gosg m c (ix2 (row t r) l) = _
  refine congrArg (Gosg m c) ?_
  blk_ext [idx t]

end Cert.ProjSBlocks

end
-- ==== Proof.ProjSRef.lean ====
/- The sample projection's reference, read at one word of each of its results. -/
module

public import proofs.«01_k».proof.Proof.ProjMath
public import proofs.«01_k».proof.Proof.Gen.ProjSRefIdeal.Read
public import Idealize.ShloMosaic.Lib.Pipeline.ValueKit
public import Idealize.ShloMosaic.Lib.WordCmp

@[expose] public section

set_option maxRecDepth 16384

noncomputable section

namespace Cert.ProjSRead

open Idealize.ShloMosaic Cert.ProjSRefIdeal Cert.ProjSRefIdeal.Gen Cert.ProjSRefIdeal.Read Cert.Math

variable (x : FVec Ideal S128x8x1024 .f32) (g : FVec Ideal S1x1024 .f32) (w : FVec Ideal S1x1024x8720 .f32)
  (gs : FVec Ideal S1x512 .f32) (ws : FVec Ideal S1x4x128x128 .f32) (bs : FVec Ideal S1x4x128 .f32)

/-- Column `n` of the projection at row `t` of sequence `b`. -/
abbrev col (b : Fin 128) (t : Fin 8) (n : Fin 8720) : EReal := projCol (fun k => x (ix3 b t k)) g w n

theorem norm_at (b : Fin 128) (t : Fin 8) (k : Fin 1024) :
    (val_main_v13 (F := Ideal) x g : FVec Ideal S128x8x1024 .f32) (ix3 b t k)
      = rms1024 (fun j => x (ix3 b t j)) (fun j => g (ix2 0 j)) k := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  rfl

theorem proj_at (b : Fin 128) (t : Fin 8) (n : Fin 8720) :
    (val_main_v15 (F := Ideal) x g w : FVec Ideal S128x8x8720 .f32) (ix3 b t n) = col x g w b t n := by
  unfold val_main_v15 val_main_v14
  pointwise
  simp only [norm_at]
  rfl

theorem u_at (b : Fin 128) (t : Fin 8) (i : Fin 512) :
    (val_main_v36 (F := Ideal) x g w : FVec Ideal S128x8x512 .f32) (ix3 b t i)
      = gelu (col x g w b t ⟨4112 + i.val, by omega⟩) := by
  pointwise [val_main_v36, val_main_v35, val_main_v34, val_main_v33, val_main_v32, val_main_v31, val_main_v30, val_main_v29,
    val_main_v28, val_main_v27, val_main_v26, val_main_v25, val_main_v24, val_main_v20, val_main_cst_2, val_main_cst_3,
    val_main_cst_4, val_main_cst_5]
  simp only [proj_at]
  unfold gelu
  rw [mul_comm (_ * _) (col x g w b t _)]

theorem gv_at (b : Fin 128) (t : Fin 8) (i : Fin 512) :
    (val_main_v49 (F := Ideal) x g w : FVec Ideal S128x8x512 .f32) (ix3 b t i)
      = gelu (col x g w b t ⟨4624 + i.val, by omega⟩) := by
  pointwise [val_main_v49, val_main_v48, val_main_v47, val_main_v46, val_main_v45, val_main_v44, val_main_v43, val_main_v42,
    val_main_v41, val_main_v40, val_main_v39, val_main_v38, val_main_v37, val_main_v21, val_main_cst_6, val_main_cst_7,
    val_main_cst_8, val_main_cst_9]
  simp only [proj_at]
  unfold gelu
  rw [mul_comm (_ * _) (col x g w b t _)]

theorem v_at (b : Fin 128) (t : Fin 8) (i : Fin 512) :
    (val_main_v63 (F := Ideal) x g w gs : FVec Ideal S128x8x512 .f32) (ix3 b t i)
      = values (fun i => col x g w b t ⟨4624 + i.val, by omega⟩) (fun i => gs (ix2 0 i)) i := by
  unfold val_main_v63 val_main_v62 val_main_v61 val_main_v60 val_main_v59 val_main_v58 val_main_v57 val_main_v56 val_main_v55
    val_main_v54 val_main_v53 val_main_v52 val_main_v51 val_main_v50
  pointwise [val_main_cst_10, val_main_cst_11, val_main_cst_12]
  simp only [gv_at]
  rfl

/-- The weights that are kept: those of rows not later than the row itself. -/
theorem weight_at (h : Fin 4) (t s : Fin 128) :
    (val_main_v70 (F := Ideal) ws : FVec Ideal S4x128x128 .f32) (ix3 h t s)
      = if s.val ≤ t.val then ws (ix4 0 h t s) else 0 := by
  pointwise [val_main_v70, val_main_call2_v2, val_main_call2_v1, val_main_call2_v0, val_main_v69, val_main_call1_v5,
    val_main_call1_v4, val_main_call1_v3, val_main_call1_v2, val_main_call1_v1, val_main_call1_v0, val_main_v68, val_main_v64,
    val_main_c_13, val_main_call1_c, val_main_call1_c_0, val_main_cst_14]
  rw [IntOp.addi, BitVec.add_zero, WordCmp.cmpi_sge_ofNat (by omega) (by omega)]
  by_cases hc : s.val ≤ t.val
  · rw [if_pos hc, decide_eq_true hc]
    rfl
  · rw [if_neg hc, decide_eq_false hc]
    exact (show _ = Ideal.ofBits .f32 0#32 from rfl).trans (Ideal.ofBits_zero .f32)

theorem mixed_at (b : Fin 128) (t : Fin 8) (i : Fin 512) :
    (val_main_v79 (F := Ideal) x g w gs ws bs : FVec Ideal S128x8x512 .f32) (ix3 b t i)
      = mixShort t (gelu (col x g w b t ⟨4112 + i.val, by omega⟩))
          (fun s => ws (ix4 0 ⟨i.val / 128, by omega⟩ ⟨t.val, by omega⟩ ⟨s.val, by omega⟩))
          (fun s => values (fun i => col x g w b s ⟨4624 + i.val, by omega⟩) (fun i => gs (ix2 0 i)) i)
          (bs (ix3 0 ⟨i.val / 128, by omega⟩ ⟨t.val, by omega⟩)) := by
  unfold val_main_v79 val_main_v78 val_main_v77 val_main_v76 val_main_v75 val_main_v74 val_main_v73 val_main_v65
    val_main_v72 val_main_v71 val_main_v67 val_main_v66
  pointwise [val_main_call0_v0, val_main_c]
  simp only [weight_at, v_at, u_at]
  have late : ∀ (z : EReal) (f : Fin 120 → EReal), (∑ s : Fin 120, z * if 8 + s.val ≤ t.val then f s else 0) = 0 :=
    fun z f => Finset.sum_eq_zero fun s _ => by rw [if_neg (by omega), mul_zero]
  rw [late, add_zero]
  unfold mixShort
  refine congrArg (fun z => _ * (z + _)) (Finset.sum_congr rfl fun s _ => dropped _ _ _)

/-- The sequence that row `n` of a result belongs to, and its place there. -/
abbrev sq (n : Fin 1024) : Fin 128 := ⟨n.val / 8, by omega⟩
abbrev tk (n : Fin 1024) : Fin 8 := ⟨n.val % 8, by omega⟩

theorem qkv_at (n : Fin 1024) (k : Fin 3072) : val_main_v81 (F := Ideal) x g w (ix2 n k)
      = col x g w (sq n) (tk n) ⟨k.val, by omega⟩ := by
  unfold val_main_v81 val_main_v16
  pointwise
  exact proj_at x g w _ _ _

theorem z_at (n : Fin 1024) (k : Fin 1024) : val_main_v84 (F := Ideal) x g w (ix2 n k)
      = silu (col x g w (sq n) (tk n) ⟨3072 + k.val, by omega⟩) := by
  unfold val_main_v84 val_main_v83 val_main_v82 val_main_call3_v5 val_main_call3_v4 val_main_call3_v3 val_main_call3_v2
    val_main_call3_v1 val_main_call3_v0 val_main_v17
  pointwise [val_main_call3_cst, val_main_call3_cst_0]
  simp only [proj_at]
  rfl

theorem ba_at (n : Fin 1024) (k : Fin 128) : val_main_v85 (F := Ideal) x g w (ix2 n k)
      = col x g w (sq n) (tk n) ⟨4096 + k.val, by omega⟩ := by
  unfold val_main_v85 val_main_v80
  pointwise
  exact proj_at x g w _ _ _

theorem osg_at (n : Fin 1024) (i : Fin 512) : val_main_v87 (F := Ideal) x g w gs ws bs (ix2 n i)
      = mixShort (tk n) (gelu (col x g w (sq n) (tk n) ⟨4112 + i.val, by omega⟩))
          (fun s => ws (ix4 0 ⟨i.val / 128, by omega⟩ ⟨(tk n).val, by omega⟩ ⟨s.val, by omega⟩))
          (fun s => values (fun i => col x g w (sq n) s ⟨4624 + i.val, by omega⟩) (fun i => gs (ix2 0 i)) i)
          (bs (ix3 0 ⟨i.val / 128, by omega⟩ ⟨(tk n).val, by omega⟩)) := by
  unfold val_main_v87 val_main_v86
  pointwise
  exact mixed_at x g w gs ws bs _ _ _

theorem qm_at (n : Fin 1024) (k : Fin 512) : val_main_v88 (F := Ideal) x g w (ix2 n k)
      = col x g w (sq n) (tk n) ⟨5136 + k.val, by omega⟩ := by
  unfold val_main_v88 val_main_v22
  pointwise
  exact proj_at x g w _ _ _

theorem vsg_at (n : Fin 1024) (k : Fin 512) : val_main_v89 (F := Ideal) x g w gs (ix2 n k)
      = values (fun i => col x g w (sq n) (tk n) ⟨4624 + i.val, by omega⟩) (fun i => gs (ix2 0 i)) k := by
  unfold val_main_v89
  pointwise
  exact v_at x g w gs _ _ _

end Cert.ProjSRead

end
-- ==== Proof.ProjSClaim.lean ====
/- The claims of the sample's projection: the frames of its three programs and the equality of the six results. -/
module

public import proofs.«01_k».proof.Defs
public import proofs.«01_k».proof.Proof.Gen.ProjS.Frame
public import proofs.«01_k».proof.Proof.Gen.ProjSRefIdeal.Run
public import proofs.«01_k».proof.Proof.ProjSBlocks
public import proofs.«01_k».proof.Proof.ProjSRef

@[expose] public section

set_option maxRecDepth 16384
set_option maxHeartbeats 2000000

noncomputable section

namespace Cert.ProjSClaim

open Idealize.ShloMosaic Idealize.ShloMosaic.TcCoe Idealize.SL.Sem Cert.Math

attribute [local instance] Cert.ProjS.Gen.facts Cert.ProjSIdeal.Gen.facts Cert.ProjSRefIdeal.Gen.facts

theorem frame_kernel : Cert.quiescent_ProjS := fun m g _ => Cert.ProjS.Gen.frame m g

theorem frame_ideal : Cert.quiescent_ProjSIdeal := fun m g _ => Cert.ProjSIdeal.Gen.frame m g

/-- The reference declares no semaphore. -/
theorem frame_ref : Cert.quiescent_ProjSRefIdeal := fun m g _ =>
  (θ_run _ _ _).mono (fun r h => ⟨fun c => (h c).2.2.2.2.2.2, Idealize.ShloMosaic.sem_eq_zero_of_no_sems (by decide) r.2⟩)
    (Cert.ProjSRefIdeal.Value.run m g)

/-- The one named constant is the f32 nearest its real value. -/
theorem preserves : Cert.preserves_ProjS_ProjSIdeal :=
  IdealRules.named_const.statement Cert.ProjSIdeal.κ "neg_log2e" .f32 0xBFB8AA3B#32 _ rfl

theorem algebraic : Cert.algebraic_ProjSIdeal_ProjSRefIdeal := by
  pair_intro
  · run_from Cert.ProjSIdeal.Gen.run_main m g
  · run_from Cert.ProjSRefIdeal.Value.run m' g'
    · rw [ProjSBlocks.final7, ProjSRefIdeal.Read.val_main_v81_eq]
      funext i
      obtain ⟨r, l, rfl⟩ : ∃ (r : Fin 1024) (l : Fin 3072), i = ix2 r l := ⟨i 0, i 1, eq_ix2 i⟩
      exact ProjSRead.qkv_at _ _ _ r l
    · rw [ProjSBlocks.final8, ProjSRefIdeal.Read.val_main_v84_eq]
      funext i
      obtain ⟨r, l, rfl⟩ : ∃ (r : Fin 1024) (l : Fin 1024), i = ix2 r l := ⟨i 0, i 1, eq_ix2 i⟩
      exact ProjSRead.z_at _ _ _ r l
    · rw [ProjSBlocks.final9, ProjSRefIdeal.Read.val_main_v85_eq]
      funext i
      obtain ⟨r, l, rfl⟩ : ∃ (r : Fin 1024) (l : Fin 128), i = ix2 r l := ⟨i 0, i 1, eq_ix2 i⟩
      exact ProjSRead.ba_at _ _ _ r l
    · obtain ⟨h0, h1, h2, h3, h4, h5⟩ := hagree c
      rw [ProjSBlocks.final10, ProjSRefIdeal.Read.val_main_v87_eq, h0, h1, h2, h3, h4, h5]
      funext i
      obtain ⟨r, l, rfl⟩ : ∃ (r : Fin 1024) (l : Fin 512), i = ix2 r l := ⟨i 0, i 1, eq_ix2 i⟩
      exact ProjSRead.osg_at _ _ _ _ _ _ r l
    · rw [ProjSBlocks.final11, ProjSRefIdeal.Read.val_main_v88_eq]
      funext i
      obtain ⟨r, l, rfl⟩ : ∃ (r : Fin 1024) (l : Fin 512), i = ix2 r l := ⟨i 0, i 1, eq_ix2 i⟩
      exact ProjSRead.qm_at _ _ _ r l
    · obtain ⟨h0, h1, h2, h3, _, _⟩ := hagree c
      rw [ProjSBlocks.final12, ProjSRefIdeal.Read.val_main_v89_eq, h0, h1, h2, h3]
      funext i
      obtain ⟨r, l, rfl⟩ : ∃ (r : Fin 1024) (l : Fin 512), i = ix2 r l := ⟨i 0, i 1, eq_ix2 i⟩
      exact ProjSRead.vsg_at _ _ _ _ r l

end Cert.ProjSClaim

end
-- ==== Proof.ConvMath.lean ====
/- The short convolution along a sequence and the norm of its heads, for a tile of 512 rows that follows 8 rows
   carried over. -/
module

public import proofs.«01_k».proof.Proof.ProjMath

@[expose] public section

noncomputable section

namespace Cert.Math

open Idealize.ShloMosaic

/-- The convolution's word: `b s` is the word `s` rows before, and `w` the four weights, the oldest row's first. -/
def conv (w : Fin 4 → EReal) (b : ℕ → EReal) : EReal := b 3 * w 0 + b 2 * w 1 + b 1 * w 2 + b 0 * w 3

/-- The same sum with the row's own word first. -/
theorem conv_order (w : Fin 4 → EReal) (b : ℕ → EReal) : b 0 * w 3 + b 3 * w 0 + b 2 * w 1 + b 1 * w 2 = conv w b := by
  unfold conv
  ac_rfl

/-- A word of a head, divided by the length of the head. -/
def unit (z : EReal) (h : Fin 128 → EReal) : EReal :=
  z * Ideal.rsqrt ((∑ k, h k * h k) + Ideal.ofBits .f32 0x358637BD#32)

/-- The word scaled after the division, or by the scaled divisor. -/
theorem unit_mul {N : ℕ} (y : Fin N → EReal) (s : EReal) (n a : Fin N) (h b : Fin 128 → Fin N) (ha : a.val = n.val)
    (hb : ∀ k, (b k).val = (h k).val) :
    y a * (Ideal.rsqrt ((∑ k, y (b k) * y (b k)) + Ideal.ofBits .f32 0x358637BD#32) * s) = unit (y n) (fun k => y (h k)) * s := by
  obtain rfl : a = n := Fin.ext ha
  obtain rfl : b = h := funext fun k => Fin.ext (hb k)
  exact (mul_assoc _ _ _).symm

theorem unit_eq {N : ℕ} (y : Fin N → EReal) (n a : Fin N) (h b : Fin 128 → Fin N) (ha : a.val = n.val)
    (hb : ∀ k, (b k).val = (h k).val) :
    y a * Ideal.rsqrt ((∑ k, y (b k) * y (b k)) + Ideal.ofBits .f32 0x358637BD#32) = unit (y n) fun k => y (h k) := by
  obtain rfl : a = n := Fin.ext ha
  obtain rfl : b = h := funext fun k => Fin.ext (hb k)
  rfl

/-- The heads of a row: those of the first 1024 columns have length one and are scaled, those of the next 1024 have
    length one, and the rest stay. -/
def heads (y : Fin 3072 → EReal) (n : Fin 3072) : EReal :=
  let u := unit (y n) fun k => y ⟨128 * (n.val / 128) + k.val, by omega⟩
  if n.val < 1024 then u * Ideal.ofBits .f32 0x3DB504F3#32 else if n.val < 2048 then u else y n

section
variable (y : Fin 3072 → EReal) (o : ℕ) (l : Fin 512)

/-- The heads' words, by the place in a group of 512 columns that begins at `o`. -/
theorem heads_first (h : o + 512 ≤ 1024) (hd : o % 128 = 0) :
    unit (y ⟨o + l.val, by omega⟩) (fun k => y ⟨o + (128 * (l.val / 128) + k.val), by omega⟩) * Ideal.ofBits .f32 0x3DB504F3#32
      = heads y ⟨o + l.val, by omega⟩ := by
  unfold heads
  rw [if_pos (show o + l.val < 1024 by omega)]
  refine congrArg (fun f => unit _ f * _) (funext fun k => congrArg y (Fin.ext ?_))
  show o + (128 * (l.val / 128) + k.val) = 128 * ((o + l.val) / 128) + k.val
  omega

theorem heads_next (h : o + 512 ≤ 2048) (hd : o % 128 = 0) (ho : 1024 ≤ o) :
    unit (y ⟨o + l.val, by omega⟩) (fun k => y ⟨o + (128 * (l.val / 128) + k.val), by omega⟩) = heads y ⟨o + l.val, by omega⟩ := by
  unfold heads
  rw [if_neg (show ¬ o + l.val < 1024 by omega), if_pos (show o + l.val < 2048 by omega)]
  refine congrArg (unit _) (funext fun k => congrArg y (Fin.ext ?_))
  show o + (128 * (l.val / 128) + k.val) = 128 * ((o + l.val) / 128) + k.val
  omega

theorem heads_last (h : o + 512 ≤ 3072) (ho : 2048 ≤ o) : y ⟨o + l.val, by omega⟩ = heads y ⟨o + l.val, by omega⟩ := by
  unfold heads
  rw [if_neg (show ¬ o + l.val < 1024 by omega), if_neg (show ¬ o + l.val < 2048 by omega)]

end

section
variable {N : ℕ} (raw : Fin 512 → Fin N → EReal) (xc : Fin 8 → Fin N → EReal)

/-- The word `s` rows before row `r`: in the tile, or in the 8 rows before it. -/
def before (s : ℕ) (r : Fin 512) (n : Fin N) : EReal :=
  if h : s ≤ r.val then raw ⟨r.val - s, by omega⟩ n else xc ⟨(8 + r.val - s) % 8, Nat.mod_lt _ (by decide)⟩ n

theorem before_zero (r : Fin 512) (n : Fin N) : before raw xc 0 r n = raw r n := dif_pos (Nat.zero_le _)

/-- The convolution's word of row `r`, in the order in which it is summed over a tile. -/
theorem before_conv (w : Fin 4 → EReal) (r : Fin 512) (n : Fin N) :
    raw r n * w 3 + before raw xc 3 r n * w 0 + before raw xc 2 r n * w 1 + before raw xc 1 r n * w 2
      = conv w fun s => before raw xc s r n :=
  (congrArg (fun z => z * w 3 + _ + _ + _) (before_zero raw xc r n).symm).trans (conv_order w fun s => before raw xc s r n)

/-- Column `n` of row `r` after the convolution and its gate. -/
def act (cw : Fin 4 → Fin N → EReal) (r : Fin 512) (n : Fin N) : EReal :=
  silu (conv (fun j => cw j n) fun s => before raw xc s r n)

end

end Cert.Math

end
-- ==== Proof.ProjConv.lean ====
/- The prompt projection's convolution and heads, a group of 512 columns at a time. -/
module

public import proofs.«01_k».proof.Proof.ConvMath
public import proofs.«01_k».proof.Proof.Gen.ProjIdeal.Frame
public import Idealize.ShloMosaic.Lib.Pipeline.ValueKit

@[expose] public section

set_option maxRecDepth 16384

noncomputable section

namespace Cert.ProjConv

open Idealize.ShloMosaic Idealize.ShloMosaic.TcCoe Cert.ProjIdeal Cert.ProjIdeal.Gen Cert.Math

section
variable (xc : FVec Ideal S8x512 .f32) (raw : FVec Ideal S512x512 .f32)
/-- A block by rows. -/
abbrev rows {a b : ℕ} (x : FVec Ideal ⟨2, ![a, b]⟩ .f32) (r : Fin a) (n : Fin b) : EReal := x (ix2 r n)

/-- The block with the 8 rows put before it, rotated down by `s`, less its first 8 rows. -/
theorem before_at (s : ℕ) (hs : s = 1 ∨ s = 2 ∨ s = 3) (r n : Fin 512) :
    extractStridedSlice S512x512 ![8, 0] (dynamicRotate 0 (BitVec.ofNat 32 s) none
      (concatenate S520x512 0 [⟨S8x512, xc⟩, ⟨S512x512, raw⟩] concatenates_S8x512_S512x512_S520x512_d0)
      rotates_S520x512_d0) slices_S520x512_o8_0_S512x512 (ix2 r n) = before (rows raw) (rows xc) s r n := by
  unfold before
  by_cases hle : s ≤ r.val
  · rw [dif_pos hle]
    rcases hs with rfl | rfl | rfl
    all_goals
      pointwise
      split_ifs
    all_goals first
      | omega
      | (refine congrArg (fun k => raw (ix2 k n)) (Fin.ext ?_); dsimp only; omega)
  · rw [dif_neg hle]
    rcases hs with rfl | rfl | rfl
    all_goals
      pointwise
      split_ifs
    all_goals first
      | omega
      | (refine congrArg (fun k => xc (ix2 k n)) (Fin.ext ?_); dsimp only; omega)

theorem addf_at (x y : FVec Ideal S512x512 .f32) (j) : addf x y j = (x j + y j : EReal) := rfl
theorem mulf_at (x y : FVec Ideal S512x512 .f32) (j) : mulf x y j = (x j * y j : EReal) := rfl
theorem truncf_at (x : FVec Ideal S512x512 .f32) (j) : truncf .bf16 x bitsLt_bf16_f32 j = (x j : EReal) := rfl

/-- The gate that each group applies. -/
theorem silu_at (y : FVec Ideal S512x512 .f32) (r l : Fin 512) : k0_pay21 (F := Ideal) y (ix2 r l) = silu (y (ix2 r l)) := by
  pointwise [k0_pay21]
  simp only [gate (κ := κ) rfl]
  rfl

variable (a : FVec Ideal S512x1024 .bf16) (v : FVec Ideal S4x3072 .f32) (w : FVec Ideal S512x1024 .bf16) (r l : Fin 512)

/-- The groups after the convolution and the gate. -/
theorem act0_at : k0_pay9 (F := Ideal) v raw xc (ix2 r l)
      = act (rows raw) (rows xc) (fun j n => v (ix2 j ⟨n.val, by omega⟩)) r l := by
  unfold k0_pay9
  refine (silu_at _ r l).trans (congrArg silu ?_)
  simp only [addf_at, mulf_at]
  rw [before_at xc _ 3 (by simp), before_at xc _ 2 (by simp), before_at xc _ 1 (by simp)]
  pointwise
  exact before_conv (rows raw) (rows xc) (fun j => v (ix2 j ⟨l.val, by omega⟩)) r l

theorem act1_at : k0_pay21 (F := Ideal) (k0_pay17 a v w xc) (ix2 r l)
      = act (rows (k0_pay16 (F := Ideal) a w)) (rows xc) (fun j n => v (ix2 j ⟨512 + n.val, by omega⟩)) r l := by
  unfold k0_pay17
  refine (silu_at _ r l).trans (congrArg silu ?_)
  simp only [addf_at, mulf_at]
  rw [before_at xc _ 3 (by simp), before_at xc _ 2 (by simp), before_at xc _ 1 (by simp)]
  pointwise
  exact before_conv (rows (k0_pay16 (F := Ideal) a w)) (rows xc) (fun j => v (ix2 j ⟨512 + l.val, by omega⟩)) r l

theorem act2_at : k0_pay33 (F := Ideal) (k0_pay29 a v w xc) (ix2 r l)
      = act (rows (k0_pay28 (F := Ideal) a w)) (rows xc) (fun j n => v (ix2 j ⟨1024 + n.val, by omega⟩)) r l := by
  unfold k0_pay33 k0_pay29
  refine (silu_at _ r l).trans (congrArg silu ?_)
  simp only [addf_at, mulf_at]
  rw [before_at xc _ 3 (by simp), before_at xc _ 2 (by simp), before_at xc _ 1 (by simp)]
  pointwise
  exact before_conv (rows (k0_pay28 (F := Ideal) a w)) (rows xc) (fun j => v (ix2 j ⟨1024 + l.val, by omega⟩)) r l

theorem act3_at : k0_pay49 (F := Ideal) v (k0_pay43 a w xc) (k0_pay44 a v w xc) (k0_pay45 a w xc) (ix2 r l)
      = act (rows (k0_pay42 (F := Ideal) a w)) (rows xc) (fun j n => v (ix2 j ⟨1536 + n.val, by omega⟩)) r l := by
  unfold k0_pay49 k0_pay45 k0_pay44 k0_pay43
  refine (silu_at _ r l).trans (congrArg silu ?_)
  simp only [addf_at, mulf_at]
  rw [before_at xc _ 3 (by simp), before_at xc _ 2 (by simp), before_at xc _ 1 (by simp)]
  pointwise
  exact before_conv (rows (k0_pay42 (F := Ideal) a w)) (rows xc) (fun j => v (ix2 j ⟨1536 + l.val, by omega⟩)) r l

theorem act4_at : k0_pay61 (F := Ideal) v (k0_pay55 a w xc) (k0_pay56 a v w xc) (k0_pay57 a w xc) (ix2 r l)
      = act (rows (k0_pay54 (F := Ideal) a w)) (rows xc) (fun j n => v (ix2 j ⟨2048 + n.val, by omega⟩)) r l := by
  unfold k0_pay61 k0_pay57 k0_pay56 k0_pay55
  refine (truncf_at _ _).trans ?_
  refine (silu_at _ r l).trans (congrArg silu ?_)
  simp only [addf_at, mulf_at]
  rw [before_at xc _ 3 (by simp), before_at xc _ 2 (by simp), before_at xc _ 1 (by simp)]
  pointwise
  exact before_conv (rows (k0_pay54 (F := Ideal) a w)) (rows xc) (fun j => v (ix2 j ⟨2048 + l.val, by omega⟩)) r l

theorem act5_at : k0_pay70 (F := Ideal) v (k0_pay63 a w xc) (k0_pay64 a v w) (k0_pay65 a w xc) (k0_pay66 v) (ix2 r l)
      = act (rows (k0_pay62 (F := Ideal) a w)) (rows xc) (fun j n => v (ix2 j ⟨2560 + n.val, by omega⟩)) r l := by
  unfold k0_pay70 k0_pay64 k0_pay65 k0_pay63 k0_pay66
  refine (truncf_at _ _).trans ?_
  refine (silu_at _ r l).trans (congrArg silu ?_)
  simp only [addf_at, mulf_at]
  rw [before_at xc _ 3 (by simp), before_at xc _ 2 (by simp), before_at xc _ 1 (by simp)]
  pointwise
  exact before_conv (rows (k0_pay62 (F := Ideal) a w)) (rows xc) (fun j => v (ix2 j ⟨2560 + l.val, by omega⟩)) r l
end

/-- The groups of heads, divided by their lengths. -/
theorem heads1_at (v : FVec Ideal S512x512 .f32) (r n : Fin 512) :
    k0_pay27 (F := Ideal) (k0_pay22 v) (k0_pay23 v) (k0_pay24 v) (k0_pay25 v) (k0_pay26 v) (ix2 r n)
      = unit (k0_pay21 (F := Ideal) v (ix2 r n)) (fun k => k0_pay21 (F := Ideal) v (ix2 r ⟨128 * (n.val / 128) + k.val, by omega⟩))
        * Ideal.ofBits .f32 0x3DB504F3#32 := by
  pointwise [k0_pay22, k0_pay23, k0_pay24, k0_pay25, k0_pay26, k0_pay27]
  split_ifs
  all_goals
    refine unit_mul (fun l => k0_pay21 (F := Ideal) v (ix2 r l)) _ n _ (fun k => ⟨128 * (n.val / 128) + k.val, by omega⟩) _ ?_ fun k => ?_
  all_goals ((try dsimp only) <;> omega)

theorem heads0_at (v : FVec Ideal S4x3072 .f32) (raw : FVec Ideal S512x512 .f32)
    (xc : FVec Ideal S8x512 .f32) (r n : Fin 512) :
    k0_pay12 (F := Ideal) (k0_pay9 v raw xc) (k0_pay10 v raw xc) (k0_pay11 v raw xc) (FloatOps.ofBits .f32 1035273459#32) (ix2 r n)
      = unit (k0_pay9 (F := Ideal) v raw xc (ix2 r n)) (fun k => k0_pay9 (F := Ideal) v raw xc (ix2 r ⟨128 * (n.val / 128) + k.val, by omega⟩))
        * Ideal.ofBits .f32 0x3DB504F3#32 := by
  pointwise [k0_pay10, k0_pay11, k0_pay12]
  split_ifs
  all_goals
    refine unit_mul (fun l => k0_pay9 (F := Ideal) v raw xc (ix2 r l)) _ n _ (fun k => ⟨128 * (n.val / 128) + k.val, by omega⟩) _ ?_ fun k => ?_
  all_goals ((try dsimp only) <;> omega)

theorem heads2_at (v : FVec Ideal S512x512 .f32) (r n : Fin 512) :
    k0_pay39 (F := Ideal) (k0_pay34 v) (k0_pay35 v) (k0_pay36 v) (k0_pay37 v) (k0_pay38 v) (ix2 r n)
      = unit (k0_pay33 (F := Ideal) v (ix2 r n)) (fun k => k0_pay33 (F := Ideal) v (ix2 r ⟨128 * (n.val / 128) + k.val, by omega⟩)) := by
  pointwise [k0_pay34, k0_pay35, k0_pay36, k0_pay37, k0_pay38, k0_pay39]
  split_ifs
  all_goals
    refine unit_eq (fun l => k0_pay33 (F := Ideal) v (ix2 r l)) n _ (fun k => ⟨128 * (n.val / 128) + k.val, by omega⟩) _ ?_ fun k => ?_
  all_goals ((try dsimp only) <;> omega)

theorem heads3_at (v : FVec Ideal S4x3072 .f32) (e : FVec Ideal S520x512 .f32) (p q : FVec Ideal S512x512 .f32) (r n : Fin 512) :
    k0_pay53 (F := Ideal) (k0_pay49 v e p q) (k0_pay50 v e p q) (k0_pay51 v e p q) (k0_pay52 v e p q) (FloatOps.ofBits .f32 1065353216#32) (ix2 r n)
      = unit (k0_pay49 (F := Ideal) v e p q (ix2 r n)) (fun k => k0_pay49 (F := Ideal) v e p q (ix2 r ⟨128 * (n.val / 128) + k.val, by omega⟩)) := by
  pointwise [k0_pay50, k0_pay51, k0_pay52, k0_pay53]
  split_ifs
  all_goals
    refine unit_eq (fun l => k0_pay49 (F := Ideal) v e p q (ix2 r l)) n _ (fun k => ⟨128 * (n.val / 128) + k.val, by omega⟩) _ ?_ fun k => ?_
  all_goals ((try dsimp only) <;> omega)

section
variable (raw : Fin 512 → Fin 3072 → EReal) (old : Fin 8 → Fin 3072 → EReal)
variable (xc : FVec Ideal S8x512 .f32) (a : FVec Ideal S512x1024 .bf16) (v : FVec Ideal S4x3072 .f32) (w : FVec Ideal S512x1024 .bf16)
variable (q : FVec Ideal S512x512 .f32) (y : S512x3072.Idx) (x : S512x512.Idx)

/-- The row's word of the stored array. -/
def word (y : S512x3072.Idx) : EReal := heads (act raw old (fun j n => v (ix2 j n)) (y 0)) (y 1)

theorem word_eq (o : ℕ) (ho : o + 512 ≤ 3072) (r l : Fin 512) (h0 : (y 0).val = r.val) (h1 : (y 1).val = o + l.val) :
    heads (act raw old (fun j n => v (ix2 j n)) r) ⟨o + l.val, by omega⟩ = word raw old v y :=
  congrArg₂ (fun r n => heads (act raw old (fun j n => v (ix2 j n)) r) n) (Fin.ext h0.symm) (Fin.ext h1.symm)

/-- Group 0 of the stored array. -/
theorem group0 (hraw : ∀ r l, (q) (ix2 r l) = raw r ⟨l.val, by omega⟩)
    (hold : ∀ j l, xc (ix2 j l) = old j ⟨l.val, by omega⟩) (h0 : (y 0).val = (x 0).val) (h1 : (y 1).val = (x 1).val) :
    k0_pay12 (F := Ideal) (k0_pay9 v q xc) (k0_pay10 v q xc) (k0_pay11 v q xc) (FloatOps.ofBits .f32 1035273459#32) x = word raw old v y := by
  have er : rows (q) = fun r l => raw r ⟨0 + l.val, by omega⟩ :=
    funext fun r => funext fun l => (hraw r l).trans (congrArg (raw r) (Fin.ext (Nat.zero_add _).symm))
  have eo : rows xc = fun j l => old j ⟨0 + l.val, by omega⟩ :=
    funext fun j => funext fun l => (hold j l).trans (congrArg (old j) (Fin.ext (Nat.zero_add _).symm))
  have ev : (fun (j : Fin 4) (n : Fin 512) => v (ix2 j ⟨n.val, by omega⟩)) = fun j n => v (ix2 j ⟨0 + n.val, by omega⟩) := by
    simp only [Nat.zero_add]
  obtain ⟨r, l, rfl⟩ : ∃ r l : Fin 512, x = ix2 r l := ⟨x 0, x 1, eq_ix2 x⟩
  refine Eq.trans ?_ (word_eq raw old v y 0 (by omega) r l h0 (h1.trans (Nat.zero_add _).symm))
  refine (heads0_at v _ _ _ _).trans ?_
  simp only [act0_at]
  rw [er, eo, ev]
  exact heads_first (act raw old (fun j n => v (ix2 j n)) r) 0 l (by omega) (by omega)

/-- Group 1 of the stored array. -/
theorem group1 (hraw : ∀ r l, (k0_pay16 (F := Ideal) a w) (ix2 r l) = raw r ⟨512 + l.val, by omega⟩)
    (hold : ∀ j l, xc (ix2 j l) = old j ⟨512 + l.val, by omega⟩) (h0 : (y 0).val = (x 0).val) (h1 : (y 1).val = 512 + (x 1).val) :
    k0_pay27 (F := Ideal) (k0_pay22 (k0_pay17 a v w xc)) (k0_pay23 (k0_pay17 a v w xc)) (k0_pay24 (k0_pay17 a v w xc))
      (k0_pay25 (k0_pay17 a v w xc)) (k0_pay26 (k0_pay17 a v w xc)) x = word raw old v y := by
  have er : rows (k0_pay16 (F := Ideal) a w) = fun r l => raw r ⟨512 + l.val, by omega⟩ := funext fun r => funext fun l => hraw r l
  have eo : rows xc = fun j l => old j ⟨512 + l.val, by omega⟩ := funext fun j => funext fun l => hold j l
  obtain ⟨r, l, rfl⟩ : ∃ r l : Fin 512, x = ix2 r l := ⟨x 0, x 1, eq_ix2 x⟩
  refine Eq.trans ?_ (word_eq raw old v y 512 (by omega) r l h0 h1)
  refine (heads1_at _ _ _).trans ?_
  simp only [act1_at]
  rw [er, eo]
  exact heads_first (act raw old (fun j n => v (ix2 j n)) r) 512 l (by omega) (by omega)

/-- Group 2 of the stored array. -/
theorem group2 (hraw : ∀ r l, (k0_pay28 (F := Ideal) a w) (ix2 r l) = raw r ⟨1024 + l.val, by omega⟩)
    (hold : ∀ j l, xc (ix2 j l) = old j ⟨1024 + l.val, by omega⟩) (h0 : (y 0).val = (x 0).val) (h1 : (y 1).val = 1024 + (x 1).val) :
    k0_pay39 (F := Ideal) (k0_pay34 (k0_pay29 a v w xc)) (k0_pay35 (k0_pay29 a v w xc)) (k0_pay36 (k0_pay29 a v w xc))
      (k0_pay37 (k0_pay29 a v w xc)) (k0_pay38 (k0_pay29 a v w xc)) x = word raw old v y := by
  have er : rows (k0_pay28 (F := Ideal) a w) = fun r l => raw r ⟨1024 + l.val, by omega⟩ := funext fun r => funext fun l => hraw r l
  have eo : rows xc = fun j l => old j ⟨1024 + l.val, by omega⟩ := funext fun j => funext fun l => hold j l
  obtain ⟨r, l, rfl⟩ : ∃ r l : Fin 512, x = ix2 r l := ⟨x 0, x 1, eq_ix2 x⟩
  refine Eq.trans ?_ (word_eq raw old v y 1024 (by omega) r l h0 h1)
  refine (heads2_at _ _ _).trans ?_
  simp only [act2_at]
  rw [er, eo]
  exact heads_next (act raw old (fun j n => v (ix2 j n)) r) 1024 l (by omega) (by omega) (by omega)

/-- Group 3 of the stored array. -/
theorem group3 (hraw : ∀ r l, (k0_pay42 (F := Ideal) a w) (ix2 r l) = raw r ⟨1536 + l.val, by omega⟩)
    (hold : ∀ j l, xc (ix2 j l) = old j ⟨1536 + l.val, by omega⟩) (h0 : (y 0).val = (x 0).val) (h1 : (y 1).val = 1536 + (x 1).val) :
    k0_pay53 (F := Ideal) (k0_pay49 v (k0_pay43 a w xc) (k0_pay44 a v w xc) (k0_pay45 a w xc))
      (k0_pay50 v (k0_pay43 a w xc) (k0_pay44 a v w xc) (k0_pay45 a w xc))
      (k0_pay51 v (k0_pay43 a w xc) (k0_pay44 a v w xc) (k0_pay45 a w xc))
      (k0_pay52 v (k0_pay43 a w xc) (k0_pay44 a v w xc) (k0_pay45 a w xc)) (FloatOps.ofBits .f32 1065353216#32) x = word raw old v y := by
  have er : rows (k0_pay42 (F := Ideal) a w) = fun r l => raw r ⟨1536 + l.val, by omega⟩ := funext fun r => funext fun l => hraw r l
  have eo : rows xc = fun j l => old j ⟨1536 + l.val, by omega⟩ := funext fun j => funext fun l => hold j l
  obtain ⟨r, l, rfl⟩ : ∃ r l : Fin 512, x = ix2 r l := ⟨x 0, x 1, eq_ix2 x⟩
  refine Eq.trans ?_ (word_eq raw old v y 1536 (by omega) r l h0 h1)
  refine (heads3_at _ _ _ _ _ _).trans ?_
  simp only [act3_at]
  rw [er, eo]
  exact heads_next (act raw old (fun j n => v (ix2 j n)) r) 1536 l (by omega) (by omega) (by omega)

/-- Group 4 of the stored array. -/
theorem group4 (hraw : ∀ r l, (k0_pay54 (F := Ideal) a w) (ix2 r l) = raw r ⟨2048 + l.val, by omega⟩)
    (hold : ∀ j l, xc (ix2 j l) = old j ⟨2048 + l.val, by omega⟩) (h0 : (y 0).val = (x 0).val) (h1 : (y 1).val = 2048 + (x 1).val) :
    k0_pay61 (F := Ideal) v (k0_pay55 a w xc) (k0_pay56 a v w xc) (k0_pay57 a w xc) x = word raw old v y := by
  have er : rows (k0_pay54 (F := Ideal) a w) = fun r l => raw r ⟨2048 + l.val, by omega⟩ := funext fun r => funext fun l => hraw r l
  have eo : rows xc = fun j l => old j ⟨2048 + l.val, by omega⟩ := funext fun j => funext fun l => hold j l
  obtain ⟨r, l, rfl⟩ : ∃ r l : Fin 512, x = ix2 r l := ⟨x 0, x 1, eq_ix2 x⟩
  refine Eq.trans ?_ (word_eq raw old v y 2048 (by omega) r l h0 h1)
  rw [act4_at, er, eo]
  exact heads_last (act raw old (fun j n => v (ix2 j n)) r) 2048 l (by omega) (by omega)

/-- Group 5 of the stored array. -/
theorem group5 (hraw : ∀ r l, (k0_pay62 (F := Ideal) a w) (ix2 r l) = raw r ⟨2560 + l.val, by omega⟩)
    (hold : ∀ j l, xc (ix2 j l) = old j ⟨2560 + l.val, by omega⟩) (h0 : (y 0).val = (x 0).val) (h1 : (y 1).val = 2560 + (x 1).val) :
    k0_pay70 (F := Ideal) v (k0_pay63 a w xc) (k0_pay64 a v w) (k0_pay65 a w xc) (k0_pay66 v) x = word raw old v y := by
  have er : rows (k0_pay62 (F := Ideal) a w) = fun r l => raw r ⟨2560 + l.val, by omega⟩ := funext fun r => funext fun l => hraw r l
  have eo : rows xc = fun j l => old j ⟨2560 + l.val, by omega⟩ := funext fun j => funext fun l => hold j l
  obtain ⟨r, l, rfl⟩ : ∃ r l : Fin 512, x = ix2 r l := ⟨x 0, x 1, eq_ix2 x⟩
  refine Eq.trans ?_ (word_eq raw old v y 2560 (by omega) r l h0 h1)
  rw [act5_at, er, eo]
  exact heads_last (act raw old (fun j n => v (ix2 j n)) r) 2560 l (by omega) (by omega)
end

end Cert.ProjConv

end
-- ==== Proof.ProjPay.lean ====
/- The prompt projection's body, read at one word of each block it stores. The body has two cases: a tile that begins a
   sequence, and a tile that follows another, whose last 8 rows it finds in the scratch buffer. -/
module

public import proofs.«01_k».proof.Proof.ProjConv
public import Idealize.ShloMosaic.Lib.WordCmp

@[expose] public section

set_option maxRecDepth 16384

noncomputable section

namespace Cert.ProjPay

open Idealize.ShloMosaic Idealize.ShloMosaic.TcCoe Cert.ProjIdeal Cert.ProjIdeal.Gen Cert.Math Cert.ProjConv

section
variable (x : FVec Ideal S512x1024 .f32) (g : FVec Ideal S1x1024 .f32)
/-- Row `r` of the tile, normed. -/
abbrev xn (r : Fin 512) : Fin 1024 → EReal := rms1024 (fun k => x (ix2 r k)) fun k => g (ix2 0 k)

theorem norm_at (r : Fin 512) (k : Fin 1024) : k0_pay2 (F := Ideal) x g (ix2 r k) = xn x g r k := by
  pointwise [k0_pay2]
  rfl

theorem prod0_at (w : FVec Ideal S512x1024 .bf16) (r n : Fin 512) :
    k0_pay5 (F := Ideal) x g w (ix2 r n) = dot (xn x g r) fun k => w (ix2 n k) := by
  pointwise [k0_pay5]
  simp only [norm_at]
  rfl

/-- A column's product with the normed rows. -/
theorem prod (a : FVec Ideal S512x1024 .bf16) (w : FVec Ideal S512x1024 .bf16) (r n : Fin 512) :
    k0_pay16 (F := Ideal) a w (ix2 r n) = dot (fun k => a (ix2 r k)) fun k => w (ix2 n k) := by
  pointwise [k0_pay16]
  rfl

theorem cw_eq (v : FVec Ideal S4x3072 .f32) : k0_pay4 (F := Ideal) v = v := by
  funext j
  obtain ⟨r, l, rfl⟩ : ∃ (r : Fin 4) (l : Fin 3072), j = ix2 r l := ⟨j 0, j 1, eq_ix2 j⟩
  pointwise [k0_pay4]

theorem z_at (a : FVec Ideal S512x1024 .bf16) (w : FVec Ideal S1024x1024 .bf16) (r : Fin 512) (n : Fin 1024) :
    k0_pay15 (F := Ideal) (k0_pay13 a w) k0_pay14 (ix2 r n) = silu (dot (fun k => a (ix2 r k)) fun k => w (ix2 n k)) := by
  pointwise [k0_pay15, k0_pay13, k0_pay14]
  simp only [gate (κ := κ) rfl]
  rfl

theorem ba_at (a : FVec Ideal S512x1024 .bf16) (w : FVec Ideal S128x1024 .bf16) (r : Fin 512) (n : Fin 128) :
    k0_pay41 (F := Ideal) a w (ix2 r n) = dot (fun k => a (ix2 r k)) fun k => w (ix2 n k) := by
  pointwise [k0_pay41]
  rfl

theorem u_at (a : FVec Ideal S512x1024 .bf16) (w : FVec Ideal S512x1024 .bf16) (r n : Fin 512) :
    k0_pay74 (F := Ideal) (k0_pay71 a w) (k0_pay72 a w) k0_pay73 (ix2 r n)
      = gelu (dot (fun k => a (ix2 r k)) fun k => w (ix2 n k)) := by
  pointwise [k0_pay74, k0_pay71, k0_pay72, k0_pay73]
  rfl

theorem v_at (a : FVec Ideal S512x1024 .bf16) (w : FVec Ideal S512x1024 .bf16) (gs : FVec Ideal S1x512 .f32) (r n : Fin 512) :
    k0_pay75 (F := Ideal) a w gs (ix2 r n)
      = values (fun i => dot (fun k => a (ix2 r k)) fun k => w (ix2 i k)) (fun i => gs (ix2 0 i)) n := by
  pointwise [k0_pay75]
  rfl

end

/-- The rows of a block that a row's mixing takes: those up to it. -/
abbrev upTo (p s : Fin 128) : Bool := s.val ≤ p.val

theorem keep_at (p s : Fin 128) (a : EReal) :
    Scalar.select (k0_pay77 (iota Kind.tc S128x128 32 [0] iota_S128x128_d0_w32) (iota Kind.tc S128x128 32 [1] iota_S128x128_d1_w32)
      k0_pay76 (ix2 p s)) a 0 = if upTo p s then a else 0 := by
  have h7 : ∀ p : Fin 128, IntOp.shrsi .vector (BitVec.ofNat 32 p.val) 7#32 = BitVec.ofNat 32 (p.val / 128) := by decide +kernel
  have key : k0_pay77 (iota Kind.tc S128x128 32 [0] iota_S128x128_d0_w32) (iota Kind.tc S128x128 32 [1] iota_S128x128_d1_w32)
      k0_pay76 (ix2 p s) = BitVec.ofBool (upTo p s) := by
    pointwise [k0_pay77, k0_pay76]
    simp only [h7]
    rw [WordCmp.cmpi_sge_ofNat (by omega) (by omega), WordCmp.cmpi_eq_ofNat (by omega) (by omega)]
    unfold upTo
    have h1 : p.val / 128 = s.val / 128 := by omega
    by_cases h2 : s.val ≤ p.val <;> simp only [h1, h2] <;> rfl
  rw [key]
  cases upTo p s <;> rfl

/-- Row `r` among the rows of its block of 128, and the row of that block at `s`. -/
abbrev lo (r : Fin 512) : Fin 128 := ⟨r.val % 128, by omega⟩
abbrev hi (i : Fin 512) : Fin 4 := ⟨i.val / 128, by omega⟩
abbrev beside (r : Fin 512) (s : Fin 128) : Fin 512 := ⟨128 * (r.val / 128) + s.val, by omega⟩

section
/-- The scratch buffer is first filled whole, with zeros. -/
theorem whole_last {e} (L : List (View.Piece (Elt Ideal) S8x3072 e)) (q) (y : S8x3072.Idx)
    (hq : (⟨Rect.unit ![0, 0] ![8, 3072] inb_S8x3072_S8x3072_0_0, q⟩ : View.Piece (Elt Ideal) S8x3072 e) ∈ L) : ∃ p ∈ L, y ∈ p.1.set :=
  ⟨_, hq, View.mem_set_unit_zero (by funext a; fin_cases a <;> rfl) inb_S8x3072_S8x3072_0_0 y⟩

theorem zero_at (u : S8x3072.Idx) : k0_pay3 (F := Ideal) u = (0 : EReal) :=
  (show _ = Ideal.ofBits .f32 0#32 from rfl).trans (Ideal.ofBits_zero .f32)

/-- What earlier writes leave is seen where the later ones do not reach. -/
theorem canon_append {S : Shape} {e : EltTy} (L M : List (View.Piece (Elt Ideal) S e)) (y : S.Idx) (h : ∃ p ∈ L, y ∈ p.1.set) :
    View.canon (L ++ M) y = View.canon L y := by
  induction L with
  | nil => obtain ⟨p, hp, _⟩ := h; exact absurd hp List.not_mem_nil
  | cons q L ih =>
    show View.canon (q :: (L ++ M)) y = _
    by_cases hm : y ∈ q.1.set
    · obtain ⟨x, rfl⟩ := q.1.exists_idx_of_mem hm
      rw [show q.1.idx x = q.1.emb x from rfl, View.canon_cons_emb q.1 q.2 (L ++ M) x, View.canon_cons_emb q.1 q.2 L x]
    · rw [View.canon_cons_of_not_mem _ _ hm, View.canon_cons_of_not_mem _ _ hm]
      refine ih ?_
      obtain ⟨p, hp, hy⟩ := h
      rcases List.mem_cons.mp hp with rfl | hp
      · exact absurd hy hm
      · exact ⟨p, hp, hy⟩

variable (x0 : FVec Ideal S512x1024 .f32) (x1 : FVec Ideal S1x1024 .f32) (x2 : FVec Ideal S4096x1024 .bf16)
  (x3 : FVec Ideal S1552x1024 .bf16) (x4 : FVec Ideal S1x512 .f32) (x5 : FVec Ideal S4x128x128 .f32)
  (x6 : FVec Ideal S128x4 .f32) (x7 : FVec Ideal S4x3072 .f32) (xs : FVec Ideal S8x3072 .f32)

/-- Column `n` of the product with the first window's weights. -/
abbrev rawA (r : Fin 512) (n : Fin 3072) : EReal := dot (xn x0 x1 r) fun k => x2 (ix2 ⟨n.val, by omega⟩ k)

theorem rawA_eq (o : ℕ) (h : o + 512 ≤ 3072) (w : FVec Ideal S512x1024 .bf16) (hw : ∀ n k, w (ix2 n k) = x2 (ix2 ⟨o + n.val, by omega⟩ k))
    (r l : Fin 512) : k0_pay16 (F := Ideal) (k0_pay2 x0 x1) w (ix2 r l) = rawA x0 x1 x2 r ⟨o + l.val, by omega⟩ := by
  refine (prod _ _ r l).trans ?_
  simp only [norm_at, hw]

/-- The last 8 rows of the tile. -/
def tailword (y : S8x3072.Idx) : EReal := rawA x0 x1 x2 ⟨504 + (y 0).val, by have : (y 0).val < 8 := (y 0).isLt; omega⟩ (y 1)

theorem tail_piece (o : ℕ) (ho : o + 512 ≤ 3072) (w : FVec Ideal S512x1024 .bf16) (hw : ∀ n k, w (ix2 n k) = x2 (ix2 ⟨o + n.val, by omega⟩ k))
    (x : S8x512.Idx) (y : S8x3072.Idx) (h0 : (y 0).val = (x 0).val) (h1 : (y 1).val = o + (x 1).val) :
    k0_pay48 (F := Ideal) (k0_pay16 (k0_pay2 x0 x1) w) x = tailword x0 x1 x2 y := by
  obtain ⟨r, l, rfl⟩ : ∃ (r : Fin 8) (l : Fin 512), x = ix2 r l := ⟨x 0, x 1, eq_ix2 x⟩
  pointwise [k0_pay48, k0_pay46]
  refine (rawA_eq x0 x1 x2 o ho w hw _ _).trans ?_
  exact congrArg₂ (rawA x0 x1 x2) (Fin.ext (congrArg (504 + ·) h0.symm)) (Fin.ext h1.symm)

theorem tail_piece3 (o : ℕ) (ho : o + 512 ≤ 3072) (w : FVec Ideal S512x1024 .bf16) (hw : ∀ n k, w (ix2 n k) = x2 (ix2 ⟨o + n.val, by omega⟩ k))
    (x : S1x8x512.Idx) (y : S1x8x3072.Idx) (h1 : (y 1).val = (x 1).val) (h2 : (y 2).val = o + (x 2).val) :
    k0_pay47 (F := Ideal) (k0_pay16 (k0_pay2 x0 x1) w) x = tailword x0 x1 x2 (ix2 (y 1) (y 2)) := by
  obtain ⟨z, r, l, rfl⟩ : ∃ (z : Fin 1) (r : Fin 8) (l : Fin 512), x = ix3 z r l := ⟨x 0, x 1, x 2, eq_ix3 x⟩
  pointwise [k0_pay47, k0_pay46]
  refine (rawA_eq x0 x1 x2 o ho w hw _ _).trans ?_
  exact congrArg₂ (rawA x0 x1 x2) (Fin.ext (congrArg (504 + ·) h1.symm)) (Fin.ext h2.symm)

variable (c : Dev nD) (i : grid0.Coords)
variable (arg1 : Memref sig .tc .vmem S512x1024 .f32) (harg1 : arg1.IsWhole) (arg2 : Memref sig .tc .vmem S1x1024 .f32) (harg2 : arg2.IsWhole) (arg3 : Memref sig .tc .vmem S4096x1024 .bf16) (harg3 : arg3.IsWhole) (arg4 : Memref sig .tc .vmem S1552x1024 .bf16) (harg4 : arg4.IsWhole) (arg5 : Memref sig .tc .vmem S1x512 .f32) (harg5 : arg5.IsWhole) (arg6 : Memref sig .tc .vmem S4x128x128 .f32) (harg6 : arg6.IsWhole) (arg7 : Memref sig .tc .vmem S128x4 .f32) (harg7 : arg7.IsWhole) (arg8 : Memref sig .tc .vmem S4x3072 .f32) (harg8 : arg8.IsWhole) (arg9 : Memref sig .tc .vmem S512x3072 .bf16) (harg9 : arg9.IsWhole) (arg10 : Memref sig .tc .vmem S512x1024 .bf16) (harg10 : arg10.IsWhole) (arg11 : Memref sig .tc .vmem S512x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x8x3072 .f32) (harg14 : arg14.IsWhole) (arg15 : Memref sig .tc .vmem S8x3072 .f32) (harg15 : arg15.IsWhole)

/-- The stored columns of a tile that begins a sequence: nothing is carried over. -/
theorem out8_A (hc0 : cond0_0 i) (y) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = word (rawA x0 x1 x2) (fun _ _ => 0) x7 y := by
  frame_out
  canon_tiles x h
  all_goals rw [cw_eq]
  case piece0 =>
    refine group5 _ _ _ _ _ _ y x (fun r l => ?_) (fun j l => ?_) h0 h1
    · refine rawA_eq x0 x1 x2 _ (by omega) _ ?_ r l
      intro n k; pointwise
    · rw [View.readCov_eq_canon']
      show View.canon _ _ = _
      canon_tiles u h using (whole_last _ (k0_pay3 (F := Ideal)) _ (by repeat (first | exact List.mem_cons_self | apply List.mem_cons_of_mem)))
      all_goals first
        | exact zero_at u
        | (rw [Rect.idx_unit_val] at h1; simp at h1; omega)
  case piece1 =>
    refine group4 _ _ _ _ _ _ y x (fun r l => ?_) (fun j l => ?_) h0 h1
    · refine rawA_eq x0 x1 x2 _ (by omega) _ ?_ r l
      intro n k; pointwise
    · rw [View.readCov_eq_canon']
      show View.canon _ _ = _
      canon_tiles u h using (whole_last _ (k0_pay3 (F := Ideal)) _ (by repeat (first | exact List.mem_cons_self | apply List.mem_cons_of_mem)))
      all_goals first
        | exact zero_at u
        | (rw [Rect.idx_unit_val] at h1; simp at h1; omega)
  case piece2 =>
    refine group3 _ _ _ _ _ _ y x (fun r l => ?_) (fun j l => ?_) h0 h1
    · refine rawA_eq x0 x1 x2 _ (by omega) _ ?_ r l
      intro n k; pointwise
    · rw [View.readCov_eq_canon']
      show View.canon _ _ = _
      canon_tiles u h using (whole_last _ (k0_pay3 (F := Ideal)) _ (by repeat (first | exact List.mem_cons_self | apply List.mem_cons_of_mem)))
      all_goals first
        | exact zero_at u
        | (rw [Rect.idx_unit_val] at h1; simp at h1; omega)
  case piece3 =>
    refine group2 _ _ _ _ _ _ y x (fun r l => ?_) (fun j l => ?_) h0 h1
    · refine rawA_eq x0 x1 x2 _ (by omega) _ ?_ r l
      intro n k; pointwise
    · rw [View.readCov_eq_canon']
      show View.canon _ _ = _
      canon_tiles u h using (whole_last _ (k0_pay3 (F := Ideal)) _ (by repeat (first | exact List.mem_cons_self | apply List.mem_cons_of_mem)))
      all_goals first
        | exact zero_at u
        | (rw [Rect.idx_unit_val] at h1; simp at h1; omega)
  case piece4 =>
    refine group1 _ _ _ _ _ _ y x (fun r l => ?_) (fun j l => ?_) h0 h1
    · refine rawA_eq x0 x1 x2 _ (by omega) _ ?_ r l
      intro n k; pointwise
    · rw [View.readCov_eq_canon']
      show View.canon _ _ = _
      canon_tiles u h using (whole_last _ (k0_pay3 (F := Ideal)) _ (by repeat (first | exact List.mem_cons_self | apply List.mem_cons_of_mem)))
      all_goals first
        | exact zero_at u
        | (rw [Rect.idx_unit_val] at h1; simp at h1; omega)
  case piece5 =>
    refine group0 _ _ _ _ _ y x (fun r l => (prod0_at x0 x1 _ r l).trans ?_) (fun j l => ?_) h0 h1
    · pointwise
    · rw [View.readCov_eq_canon']
      show View.canon _ _ = _
      canon_tiles u h using (whole_last _ (k0_pay3 (F := Ideal)) _ (by repeat (first | exact List.mem_cons_self | apply List.mem_cons_of_mem)))
      all_goals first
        | exact zero_at u
        | (rw [Rect.idx_unit_val] at h1; simp at h1; omega)

/-- Those of a tile that follows another. -/
theorem out8_B (hc0 : ¬ cond0_0 i) (y) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y = word (rawA x0 x1 x2) (rows xs) x7 y := by
  frame_out
  canon_tiles x h
  all_goals rw [cw_eq]
  case piece0 =>
    refine group5 _ _ _ _ _ _ y x (fun r l => ?_) (fun j l => ?_) h0 h1
    · refine rawA_eq x0 x1 x2 _ (by omega) _ ?_ r l
      intro n k; pointwise
    · pointwise
  case piece1 =>
    refine group4 _ _ _ _ _ _ y x (fun r l => ?_) (fun j l => ?_) h0 h1
    · refine rawA_eq x0 x1 x2 _ (by omega) _ ?_ r l
      intro n k; pointwise
    · pointwise
  case piece2 =>
    refine group3 _ _ _ _ _ _ y x (fun r l => ?_) (fun j l => ?_) h0 h1
    · refine rawA_eq x0 x1 x2 _ (by omega) _ ?_ r l
      intro n k; pointwise
    · pointwise
  case piece3 =>
    refine group2 _ _ _ _ _ _ y x (fun r l => ?_) (fun j l => ?_) h0 h1
    · refine rawA_eq x0 x1 x2 _ (by omega) _ ?_ r l
      intro n k; pointwise
    · pointwise
  case piece4 =>
    refine group1 _ _ _ _ _ _ y x (fun r l => ?_) (fun j l => ?_) h0 h1
    · refine rawA_eq x0 x1 x2 _ (by omega) _ ?_ r l
      intro n k; pointwise
    · pointwise
  case piece5 =>
    refine group0 _ _ _ _ _ y x (fun r l => (prod0_at x0 x1 _ r l).trans ?_) (fun j l => ?_) h0 h1
    · pointwise
    · pointwise

/-- Both cases leave the same last rows, in the result and in the scratch buffer. -/
theorem out13_at (y) : (∀ hc0, out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = tailword x0 x1 x2 (ix2 (y 1) (y 2)))
    ∧ ∀ hc0, out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y = tailword x0 x1 x2 (ix2 (y 1) (y 2)) := by
  constructor
  all_goals
    intro hc0
    frame_out
    canon_tiles x h
    case piece5 =>
      refine tail_piece3 x0 x1 x2 0 (by omega) _ ?_ x y h1 (h2.trans (Nat.zero_add _).symm)
      intro n k; pointwise
    all_goals
      refine tail_piece3 x0 x1 x2 _ ?_ _ ?_ x y h1 h2
      · omega
      · intro n k; pointwise

set_option maxHeartbeats 1000000 in
theorem sout_at (y) : (∀ hc0, sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = tailword x0 x1 x2 y)
    ∧ ∀ hc0, sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y = tailword x0 x1 x2 y := by
  constructor
  all_goals
    intro hc0
    frame_out
  case' left => refine (canon_append [_, _, _, _, _, _] [_] y (View.cover_of_tiled_head _ _ _ rfl y)).trans ?_
  all_goals
    canon_tiles x h
    case piece5 =>
      refine tail_piece x0 x1 x2 0 (by omega) _ ?_ x y h0 (h1.trans (Nat.zero_add _).symm)
      intro n k; pointwise
    all_goals
      refine tail_piece x0 x1 x2 _ ?_ _ ?_ x y h0 h1
      · omega
      · intro n k; pointwise

/-- The gate's columns. -/
theorem out9_at (r : Fin 512) (n : Fin 1024) :
    (∀ hc0, out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r n) = silu (dot (xn x0 x1 r) fun k => x2 (ix2 ⟨3072 + n.val, by omega⟩ k)))
    ∧ ∀ hc0, out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs (ix2 r n) = silu (dot (xn x0 x1 r) fun k => x2 (ix2 ⟨3072 + n.val, by omega⟩ k)) := by
  constructor
  all_goals
    intro hc0
    frame_out
    refine (z_at _ _ r n).trans ?_
    pointwise
    simp only [norm_at]

/-- Column `n` of the product with the second window's weights. -/
abbrev colB (r : Fin 512) (n : Fin 1552) : EReal := dot (xn x0 x1 r) fun k => x3 (ix2 n k)

theorem out10_at (r : Fin 512) (n : Fin 128) :
    (∀ hc0, out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r n) = colB x0 x1 x3 r ⟨n.val, by omega⟩)
    ∧ ∀ hc0, out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs (ix2 r n) = colB x0 x1 x3 r ⟨n.val, by omega⟩ := by
  constructor
  all_goals
    intro hc0
    frame_out
    refine (ba_at _ _ r n).trans ?_
    pointwise
    simp only [norm_at]

theorem out12_at (r n : Fin 512) :
    (∀ hc0, out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 r n) = colB x0 x1 x3 r ⟨1040 + n.val, by omega⟩)
    ∧ ∀ hc0, out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs (ix2 r n) = colB x0 x1 x3 r ⟨1040 + n.val, by omega⟩ := by
  constructor
  all_goals
    intro hc0
    frame_out
    refine (prod _ _ r n).trans ?_
    pointwise
    simp only [norm_at]

/-- The values of row `r`. -/
abbrev vrow (r : Fin 512) : Fin 512 → EReal :=
  values (fun i => colB x0 x1 x3 r ⟨528 + i.val, by omega⟩) fun i => x4 (ix2 0 i)

theorem u_row (w : FVec Ideal S512x1024 .bf16) (hw : ∀ n k, w (ix2 n k) = x3 (ix2 ⟨16 + n.val, by omega⟩ k)) (r n : Fin 512) :
    k0_pay74 (F := Ideal) (k0_pay71 (k0_pay2 x0 x1) w) (k0_pay72 (k0_pay2 x0 x1) w) k0_pay73 (ix2 r n)
      = gelu (colB x0 x1 x3 r ⟨16 + n.val, by omega⟩) := by
  refine (u_at _ _ r n).trans ?_
  simp only [norm_at, hw]

theorem v_row (w : FVec Ideal S512x1024 .bf16) (hw : ∀ n k, w (ix2 n k) = x3 (ix2 ⟨528 + n.val, by omega⟩ k)) (r n : Fin 512) :
    k0_pay75 (F := Ideal) (k0_pay2 x0 x1) w x4 (ix2 r n) = vrow x0 x1 x3 x4 r n := by
  refine (v_at _ _ _ r n).trans ?_
  simp only [norm_at, hw]

/-- The mixed block's word. -/
def tiles (y : S512x512.Idx) : EReal :=
  mix (upTo (lo (y 0))) (gelu (colB x0 x1 x3 (y 0) ⟨16 + (y 1).val, by have : (y 1).val < 512 := (y 1).isLt; omega⟩))
    (fun s => x5 (ix3 (hi (y 1)) (lo (y 0)) s)) (fun s => vrow x0 x1 x3 x4 (beside (y 0) s) (y 1)) (x6 (ix2 (lo (y 0)) (hi (y 1))))

theorem gate_ext {r s : Fin 512} {n k : Fin 1552} (h : r.val = s.val) (hn : n.val = k.val) :
    gelu (colB x0 x1 x3 r n) = gelu (colB x0 x1 x3 s k) := by
  rw [Fin.ext h, Fin.ext hn]

theorem vrow_ext {r s n k : Fin 512} (h : r.val = s.val) (hn : n.val = k.val) :
    vrow x0 x1 x3 x4 r n = vrow x0 x1 x3 x4 s k := by
  rw [Fin.ext h, Fin.ext hn]

set_option maxHeartbeats 2000000 in
theorem out11_at (y) : (∀ hc0, out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = tiles x0 x1 x3 x4 x5 x6 y)
    ∧ ∀ hc0, out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y = tiles x0 x1 x3 x4 x5 x6 y := by
  constructor
  all_goals
    intro hc0
    frame_out
    canon_tiles x h
  all_goals
    pointwise [k0_pay1, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]
    unfold tiles mix
    have e0 : x 0 = lo (y 0) := Fin.ext (by show (x 0 : ℕ) = (y 0 : ℕ) % 128; omega)
    refine congrArg₂ (· * ·) ((u_row x0 x1 x3 _ (fun n k => by pointwise) _ _).trans
        (gate_ext x0 x1 x3 h0.symm (congrArg (16 + ·) h1.symm)))
      (congrArg₂ (· + ·) (Finset.sum_congr rfl fun s _ => (keep_at _ s _).trans
        (if_congr (iff_of_eq (congrArg (fun r => upTo r s = true) e0))
          (congrArg₂ (· * ·) ?_ ((v_row x0 x1 x3 x4 _ (fun n k => by pointwise) _ _).trans
            (vrow_ext x0 x1 x3 x4 (by show _ = 128 * ((y 0 : ℕ) / 128) + s.val; (try dsimp only) <;> omega) h1.symm))) rfl)) ?_)
  all_goals blk_ext

end

end Cert.ProjPay

end
-- ==== Proof.ProjRef.lean ====
/- The prompt projection's reference, read at one word of each of its results. -/
module

public import proofs.«01_k».proof.Proof.ConvMath
public import proofs.«01_k».proof.Proof.Gen.ProjRefIdeal.Read
public import Idealize.ShloMosaic.Lib.Pipeline.ValueKit
public import Idealize.ShloMosaic.Lib.WordCmp

@[expose] public section

set_option maxRecDepth 16384

noncomputable section

namespace Cert.ProjRead

open Idealize.ShloMosaic Cert.ProjRefIdeal Cert.ProjRefIdeal.Gen Cert.ProjRefIdeal.Read Cert.Math

variable (x : FVec Ideal S8x2048x1024 .f32) (g : FVec Ideal S1x1024 .f32) (w : FVec Ideal S1x1024x8720 .f32)
  (gs : FVec Ideal S1x512 .f32) (ws : FVec Ideal S1x4x128x128 .f32) (bs : FVec Ideal S1x4x128 .f32)
  (cw : FVec Ideal S1x4x3072 .f32)

/-- Column `n` of the projection at row `t` of sequence `b`. -/
abbrev col (b : Fin 8) (t : Fin 2048) (n : Fin 8720) : EReal := projCol (fun k => x (ix3 b t k)) g w n

theorem norm_at (b : Fin 8) (t : Fin 2048) (k : Fin 1024) :
    (val_main_v13 (F := Ideal) x g : FVec Ideal S8x2048x1024 .f32) (ix3 b t k)
      = rms1024 (fun j => x (ix3 b t j)) (fun j => g (ix2 0 j)) k := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  rfl

theorem proj_at (b : Fin 8) (t : Fin 2048) (n : Fin 8720) :
    (val_main_v15 (F := Ideal) x g w : FVec Ideal S8x2048x8720 .f32) (ix3 b t n) = col x g w b t n := by
  unfold val_main_v15 val_main_v14
  pointwise
  simp only [norm_at]
  rfl

theorem u_at (b : Fin 8) (t : Fin 2048) (i : Fin 512) :
    (val_main_v90 (F := Ideal) x g w : FVec Ideal S8x2048x512 .f32) (ix3 b t i)
      = gelu (col x g w b t ⟨4112 + i.val, by omega⟩) := by
  pointwise [val_main_v90, val_main_v89, val_main_v88, val_main_v87, val_main_v86, val_main_v85, val_main_v84, val_main_v83,
    val_main_v82, val_main_v81, val_main_v80, val_main_v79, val_main_v78, val_main_v20, val_main_cst_8, val_main_cst_9,
    val_main_cst_10, val_main_cst_11]
  simp only [proj_at]
  unfold gelu
  rw [mul_comm (_ * _) (col x g w b t _)]

theorem gv_at (b : Fin 8) (t : Fin 2048) (i : Fin 512) :
    (val_main_v103 (F := Ideal) x g w : FVec Ideal S8x2048x512 .f32) (ix3 b t i)
      = gelu (col x g w b t ⟨4624 + i.val, by omega⟩) := by
  pointwise [val_main_v103, val_main_v102, val_main_v101, val_main_v100, val_main_v99, val_main_v98, val_main_v97, val_main_v96,
    val_main_v95, val_main_v94, val_main_v93, val_main_v92, val_main_v91, val_main_v21, val_main_cst_12, val_main_cst_13,
    val_main_cst_14, val_main_cst_15]
  simp only [proj_at]
  unfold gelu
  rw [mul_comm (_ * _) (col x g w b t _)]

theorem v_at (b : Fin 8) (t : Fin 2048) (i : Fin 512) :
    (val_main_v117 (F := Ideal) x g w gs : FVec Ideal S8x2048x512 .f32) (ix3 b t i)
      = values (fun i => col x g w b t ⟨4624 + i.val, by omega⟩) (fun i => gs (ix2 0 i)) i := by
  unfold val_main_v117 val_main_v116 val_main_v115 val_main_v114 val_main_v113 val_main_v112 val_main_v111 val_main_v110
    val_main_v109 val_main_v108 val_main_v107 val_main_v106 val_main_v105 val_main_v104
  pointwise [val_main_cst_16, val_main_cst_17, val_main_cst_18]
  simp only [gv_at]
  rfl

/-- The weights that are kept: those of rows not later than the row itself. -/
theorem weight_at (h : Fin 4) (t s : Fin 128) :
    (val_main_v124 (F := Ideal) ws : FVec Ideal S4x128x128 .f32) (ix3 h t s)
      = if s.val ≤ t.val then ws (ix4 0 h t s) else 0 := by
  pointwise [val_main_v124, val_main_call3_v2, val_main_call3_v1, val_main_call3_v0, val_main_v123, val_main_call2_v5,
    val_main_call2_v4, val_main_call2_v3, val_main_call2_v2, val_main_call2_v1, val_main_call2_v0, val_main_v122, val_main_v118,
    val_main_c_19, val_main_call2_c, val_main_call2_c_0, val_main_cst_20]
  rw [IntOp.addi, BitVec.add_zero, WordCmp.cmpi_sge_ofNat (by omega) (by omega)]
  by_cases hc : s.val ≤ t.val
  · rw [if_pos hc, decide_eq_true hc]
    rfl
  · rw [if_neg hc, decide_eq_false hc]
    exact (show _ = Ideal.ofBits .f32 0#32 from rfl).trans (Ideal.ofBits_zero .f32)

/-- The word `s` rows before row `t` of sequence `b`, zero before the sequence begins. -/
def back (b : Fin 8) (t : Fin 2048) (n : Fin 3072) (s : ℕ) : EReal :=
  if h : s ≤ t.val then col x g w b ⟨t.val - s, by omega⟩ ⟨n.val, by omega⟩ else 0

/-- Column `n` of row `t` after the convolution and its gate. -/
def actAt (b : Fin 8) (t : Fin 2048) (n : Fin 3072) : EReal :=
  silu (conv (fun j => cw (ix3 0 j n)) (back x g w b t n))

theorem padded_at (b : Fin 8) (t : Fin 2048) (n : Fin 3072) (i : Fin 2051) (s : ℕ) (hi : i.val = t.val + 3 - s) (hs : s ≤ 3) :
    (val_main_v26 (F := Ideal) x g w : FVec Ideal S8x2051x3072 .f32) (ix3 b i n) = back x g w b t n s := by
  unfold back
  by_cases h : s ≤ t.val
  · rw [dif_pos h]
    rw [show i = ⟨3 + (t.val - s), by omega⟩ from Fin.ext (by show i.val = 3 + (t.val - s); omega)]
    pointwise [val_main_v26, val_main_v16]
    exact proj_at x g w _ _ _
  · rw [dif_neg h]
    pointwise [val_main_v26, val_main_v24, val_main_cst_2]
    rw [dif_pos (by omega)]

theorem sum_at (b : Fin 8) (t : Fin 2048) (n : Fin 3072) :
    (val_main_v53 (F := Ideal) x g w cw : FVec Ideal S8x2048x3072 .f32) (ix3 b t n)
      = conv (fun j => cw (ix3 0 j n)) (back x g w b t n) := by
  unfold val_main_v53 val_main_v52 val_main_v51 val_main_v50 val_main_v49 val_main_v48 val_main_v47 val_main_v46 val_main_v45
    val_main_v44 val_main_v43 val_main_v42 val_main_v41 val_main_v40 val_main_v39 val_main_v38 val_main_v37 val_main_v36
    val_main_v35 val_main_v34 val_main_v33 val_main_v32 val_main_v31 val_main_v30 val_main_v29 val_main_v28 val_main_v27 val_main_v25
  pointwise
  rw [padded_at x g w b t n _ 3 (by show t.val = t.val + 3 - 3; omega) (by omega),
    padded_at x g w b t n _ 2 (by show 1 + t.val = t.val + 3 - 2; omega) (by omega),
    padded_at x g w b t n _ 1 (by show 2 + t.val = t.val + 3 - 1; omega) (by omega),
    padded_at x g w b t n _ 0 (by show 3 + t.val = t.val + 3 - 0; omega) (by omega)]
  rfl

theorem act_at (b : Fin 8) (t : Fin 2048) (n : Fin 3072) :
    (val_main_v54 (F := Ideal) x g w cw : FVec Ideal S8x2048x3072 .f32) (ix3 b t n) = actAt x g w cw b t n := by
  unfold val_main_v54 val_main_call0_v5 val_main_call0_v4 val_main_call0_v3 val_main_call0_v2 val_main_call0_v1 val_main_call0_v0
  pointwise [val_main_call0_cst, val_main_call0_cst_0]
  simp only [sum_at]
  rfl

/-- The sequence that row `n` of a result belongs to, and its place there. -/
abbrev sq (n : Fin 16384) : Fin 8 := ⟨n.val / 2048, by omega⟩
abbrev tk (n : Fin 16384) : Fin 2048 := ⟨n.val % 2048, by omega⟩

theorem rest_at (n : Fin 16384) (k : Fin 1024) : (val_main_v136 (F := Ideal) x g w cw : FVec Ideal S16384x1024 .f32) (ix2 n k)
      = actAt x g w cw (sq n) (tk n) ⟨2048 + k.val, by omega⟩ := by
  unfold val_main_v136 val_main_v57
  pointwise
  exact act_at x g w cw _ _ _

theorem z_at (n : Fin 16384) (k : Fin 1024) : val_main_v141 (F := Ideal) x g w (ix2 n k)
      = silu (col x g w (sq n) (tk n) ⟨3072 + k.val, by omega⟩) := by
  unfold val_main_v141 val_main_v140 val_main_v139 val_main_call4_v5 val_main_call4_v4 val_main_call4_v3 val_main_call4_v2
    val_main_call4_v1 val_main_call4_v0 val_main_v17
  pointwise [val_main_call4_cst, val_main_call4_cst_0]
  simp only [proj_at]
  rfl

theorem ba_at (n : Fin 16384) (k : Fin 128) : val_main_v142 (F := Ideal) x g w (ix2 n k)
      = col x g w (sq n) (tk n) ⟨4096 + k.val, by omega⟩ := by
  unfold val_main_v142 val_main_v133
  pointwise
  exact proj_at x g w _ _ _

theorem qm_at (n : Fin 16384) (k : Fin 512) : val_main_v146 (F := Ideal) x g w (ix2 n k)
      = col x g w (sq n) (tk n) ⟨5136 + k.val, by omega⟩ := by
  unfold val_main_v146 val_main_v145 val_main_v22
  pointwise
  exact proj_at x g w _ _ _

theorem tail_at (b : Fin 8) (j : Fin 8) (n : Fin 3072) : val_main_v147 (F := Ideal) x g w (ix3 b j n)
      = col x g w b ⟨2040 + j.val, by omega⟩ ⟨n.val, by omega⟩ := by
  unfold val_main_v147 val_main_v16
  pointwise
  exact proj_at x g w _ _ _

/-- Products and sums of whole arrays, at a word. -/
theorem prod4_at (u v : FVec Ideal S8x2048x8x128 .f32) (b : Fin 8) (t : Fin 2048) (h : Fin 8) (k : Fin 128) :
    mulf (F := Ideal) u v (ix4 b t h k) = u (ix4 b t h k) * v (ix4 b t h k) := by
  pointwise

theorem prod3_at (u v : FVec Ideal S8x2048x512 .f32) (b : Fin 8) (t : Fin 2048) (i : Fin 512) :
    mulf (F := Ideal) u v (ix3 b t i) = u (ix3 b t i) * v (ix3 b t i) := by
  pointwise

theorem sum5_at (u v : FVec Ideal S8x16x128x4x128 .f32) (b : Fin 8) (a : Fin 16) (s : Fin 128) (h : Fin 4) (l : Fin 128) :
    addf (F := Ideal) u v (ix5 b a s h l) = u (ix5 b a s h l) + v (ix5 b a s h l) := by
  pointwise

/-- The rows of a result, from the words of the heads. -/
theorem flat_at (v : FVec Ideal S8x2048x8x128 .f32) (n : Fin 16384) (k : Fin 1024) :
    (shapeCast S16384x1024 v shapeCasts_S8x2048x8x128_S16384x1024 : FVec Ideal S16384x1024 .f32) (ix2 n k)
      = v (ix4 (sq n) (tk n) ⟨k.val / 128, by omega⟩ ⟨k.val % 128, by omega⟩) := by
  pointwise

theorem act_ext (b : Fin 8) (t : Fin 2048) {n k : Fin 3072} (h : n.val = k.val) : actAt x g w cw b t n = actAt x g w cw b t k :=
  congrArg (actAt x g w cw b t) (Fin.ext h)

theorem q_split (b : Fin 8) (t : Fin 2048) (h : Fin 8) (k : Fin 128) :
    (val_main_v58 (F := Ideal) x g w cw : FVec Ideal S8x2048x8x128 .f32) (ix4 b t h k)
      = actAt x g w cw b t ⟨128 * h.val + k.val, by omega⟩ := by
  unfold val_main_v58 val_main_v55
  pointwise
  exact (act_at x g w cw _ _ _).trans (act_ext x g w cw b t (by (try dsimp only) <;> omega))

theorem k_split (b : Fin 8) (t : Fin 2048) (h : Fin 8) (k : Fin 128) :
    (val_main_v69 (F := Ideal) x g w cw : FVec Ideal S8x2048x8x128 .f32) (ix4 b t h k)
      = actAt x g w cw b t ⟨1024 + (128 * h.val + k.val), by omega⟩ := by
  unfold val_main_v69 val_main_v56
  pointwise
  exact (act_at x g w cw _ _ _).trans (act_ext x g w cw b t (by (try dsimp only) <;> omega))

/-- The heads' lengths, from the sum of squares. -/
theorem q_length (b : Fin 8) (t : Fin 2048) (h : Fin 8) (k : Fin 128) :
    (val_main_v65 (F := Ideal) x g w cw : FVec Ideal S8x2048x8x128 .f32) (ix4 b t h k)
      = Ideal.rsqrt ((∑ l : Fin 128, (val_main_v59 (F := Ideal) x g w cw : FVec Ideal S8x2048x8x128 .f32) (ix4 b t h l))
          + Ideal.ofBits .f32 0x358637BD#32) := by
  unfold val_main_v65 val_main_v64 val_main_v63 val_main_v62 val_main_v61 val_main_v60
  pointwise [val_main_cst_4, val_main_cst_3]

theorem k_length (b : Fin 8) (t : Fin 2048) (h : Fin 8) (k : Fin 128) :
    (val_main_v76 (F := Ideal) x g w cw : FVec Ideal S8x2048x8x128 .f32) (ix4 b t h k)
      = Ideal.rsqrt ((∑ l : Fin 128, (val_main_v70 (F := Ideal) x g w cw : FVec Ideal S8x2048x8x128 .f32) (ix4 b t h l))
          + Ideal.ofBits .f32 0x358637BD#32) := by
  unfold val_main_v76 val_main_v75 val_main_v74 val_main_v73 val_main_v72 val_main_v71
  pointwise [val_main_cst_7, val_main_cst_6]

theorem scale_at (b : Fin 8) (t : Fin 2048) (h : Fin 8) (k : Fin 128) :
    (val_main_v67 (F := Ideal) : FVec Ideal S8x2048x8x128 .f32) (ix4 b t h k) = Ideal.ofBits .f32 0x3DB504F3#32 := by
  unfold val_main_v67
  pointwise [val_main_cst_5]

theorem q4_at (b : Fin 8) (t : Fin 2048) (h : Fin 8) (k : Fin 128) :
    (val_main_v68 (F := Ideal) x g w cw : FVec Ideal S8x2048x8x128 .f32) (ix4 b t h k)
      = unit (actAt x g w cw b t ⟨128 * h.val + k.val, by omega⟩)
          (fun l => actAt x g w cw b t ⟨128 * h.val + l.val, by omega⟩) * Ideal.ofBits .f32 0x3DB504F3#32 := by
  refine (prod4_at _ _ b t h k).trans (congrArg₂ (· * ·) ((prod4_at _ _ b t h k).trans
    (congrArg₂ (· * ·) (q_split x g w cw b t h k) ((q_length x g w cw b t h k).trans ?_))) (scale_at b t h k))
  refine congrArg (fun z => Ideal.rsqrt (z + _)) (Finset.sum_congr rfl fun l _ => (prod4_at _ _ b t h l).trans ?_)
  rw [q_split]

theorem k4_at (b : Fin 8) (t : Fin 2048) (h : Fin 8) (k : Fin 128) :
    (val_main_v77 (F := Ideal) x g w cw : FVec Ideal S8x2048x8x128 .f32) (ix4 b t h k)
      = unit (actAt x g w cw b t ⟨1024 + (128 * h.val + k.val), by omega⟩)
          (fun l => actAt x g w cw b t ⟨1024 + (128 * h.val + l.val), by omega⟩) := by
  refine (prod4_at _ _ b t h k).trans (congrArg₂ (· * ·) (k_split x g w cw b t h k) ((k_length x g w cw b t h k).trans ?_))
  refine congrArg (fun z => Ideal.rsqrt (z + _)) (Finset.sum_congr rfl fun l _ => (prod4_at _ _ b t h l).trans ?_)
  rw [k_split]

theorem qkv_at (n : Fin 16384) (k : Fin 3072) : val_main_v138 (F := Ideal) x g w cw (ix2 n k)
      = heads (actAt x g w cw (sq n) (tk n)) k := by
  have join : val_main_v138 (F := Ideal) x g w cw (ix2 n k)
      = if h : k.val < 1024 then (val_main_v134 (F := Ideal) x g w cw : FVec Ideal S16384x1024 .f32) (ix2 n ⟨k.val, h⟩)
        else if h : k.val - 1024 < 1024 then (val_main_v135 (F := Ideal) x g w cw : FVec Ideal S16384x1024 .f32) (ix2 n ⟨k.val - 1024, h⟩)
        else (val_main_v136 (F := Ideal) x g w cw : FVec Ideal S16384x1024 .f32) (ix2 n ⟨k.val - 1024 - 1024, by omega⟩) := by
    unfold val_main_v138 val_main_v137
    pointwise
  refine join.trans ?_
  unfold heads
  by_cases h1 : k.val < 1024
  · rw [dif_pos h1, if_pos h1]
    refine (flat_at _ n _).trans ((q4_at x g w cw _ _ _ _).trans ?_)
    refine congrArg (· * _) (congrArg₂ unit (act_ext x g w cw _ _ ?_) (funext fun l => act_ext x g w cw _ _ ?_))
    all_goals ((try dsimp only) <;> omega)
  · rw [dif_neg h1, if_neg h1]
    by_cases h2 : k.val < 2048
    · rw [dif_pos (by omega), if_pos h2]
      refine (flat_at _ n _).trans ((k4_at x g w cw _ _ _ _).trans ?_)
      refine congrArg₂ unit (act_ext x g w cw _ _ ?_) (funext fun l => act_ext x g w cw _ _ ?_)
      all_goals ((try dsimp only) <;> omega)
    · rw [dif_neg (by omega), if_neg h2]
      exact (rest_at x g w cw n _).trans (act_ext x g w cw _ _ (by (try dsimp only) <;> omega))

/-- The blocks of 128 rows and the groups of 128 columns. -/
theorem blocks_at (v : FVec Ideal S8x2048x512 .f32) (b : Fin 8) (a : Fin 16) (s : Fin 128) (h : Fin 4) (l : Fin 128) :
    (shapeCast S8x16x128x4x128 v shapeCasts_S8x2048x512_S8x16x128x4x128 : FVec Ideal S8x16x128x4x128 .f32) (ix5 b a s h l)
      = v (ix3 b ⟨a.val * 128 + s.val, by omega⟩ ⟨h.val * 128 + l.val, by omega⟩) := by
  pointwise

theorem rows_at (v : FVec Ideal S8x16x128x4x128 .f32) (b : Fin 8) (t : Fin 2048) (i : Fin 512) :
    (shapeCast S8x2048x512 v shapeCasts_S8x16x128x4x128_S8x2048x512 : FVec Ideal S8x2048x512 .f32) (ix3 b t i)
      = v (ix5 b ⟨t.val / 128, by omega⟩ ⟨t.val % 128, by omega⟩ ⟨i.val / 128, by omega⟩ ⟨i.val % 128, by omega⟩) := by
  pointwise

theorem padded_v (b : Fin 8) (t : Fin 2048) (i : Fin 512) :
    (val_main_v120 (F := Ideal) x g w gs : FVec Ideal S8x2048x512 .f32) (ix3 b t i)
      = values (fun i => col x g w b t ⟨4624 + i.val, by omega⟩) (fun i => gs (ix2 0 i)) i := by
  unfold val_main_v120
  pointwise [val_main_call1_v0, val_main_c]
  simp only [v_at]

theorem bias_at (b : Fin 8) (a : Fin 16) (s : Fin 128) (h : Fin 4) (l : Fin 128) :
    (val_main_v129 (F := Ideal) bs : FVec Ideal S8x16x128x4x128 .f32) (ix5 b a s h l) = bs (ix3 0 h s) := by
  unfold val_main_v129 val_main_v128 val_main_v127 val_main_v119
  pointwise

theorem turned_at (b : Fin 8) (a : Fin 16) (p : Fin 128) (h : Fin 4) (l : Fin 128) :
    (val_main_v126 (F := Ideal) x g w gs ws : FVec Ideal S8x16x128x4x128 .f32) (ix5 b a p h l)
      = ∑ s : Fin 128, (val_main_v121 (F := Ideal) x g w gs : FVec Ideal S8x16x128x4x128 .f32) (ix5 b a s h l)
          * (val_main_v124 (F := Ideal) ws : FVec Ideal S4x128x128 .f32) (ix3 h p s) := by
  unfold val_main_v126 val_main_v125
  pointwise

theorem mixed_at (b : Fin 8) (t : Fin 2048) (i : Fin 512) :
    (val_main_v132 (F := Ideal) x g w gs ws bs : FVec Ideal S8x2048x512 .f32) (ix3 b t i)
      = mix (fun s => s.val ≤ t.val % 128) (gelu (col x g w b t ⟨4112 + i.val, by omega⟩))
          (fun s => ws (ix4 0 ⟨i.val / 128, by omega⟩ ⟨t.val % 128, by omega⟩ s))
          (fun s => values (fun i => col x g w b ⟨128 * (t.val / 128) + s.val, by omega⟩ ⟨4624 + i.val, by omega⟩) (fun i => gs (ix2 0 i)) i)
          (bs (ix3 0 ⟨i.val / 128, by omega⟩ ⟨t.val % 128, by omega⟩)) := by
  refine (prod3_at _ _ b t i).trans (congrArg₂ (· * ·) (u_at x g w b t i) ((rows_at _ b t i).trans
    ((sum5_at _ _ _ _ _ _ _).trans (congrArg₂ (· + ·) ((turned_at x g w gs ws _ _ _ _ _).trans ?_) (bias_at bs _ _ _ _ _)))))
  refine Finset.sum_congr rfl fun s _ => ?_
  rw [weight_at, dropped]
  refine if_congr decide_eq_true_iff.symm (congrArg (_ * ·) ((blocks_at _ _ _ _ _ _).trans ((padded_v x g w gs _ _ _).trans ?_))) rfl
  refine congrArg₂ (fun (t : Fin 2048) (k : Fin 512) => values (fun i => col x g w b t ⟨4624 + i.val, by omega⟩) (fun i => gs (ix2 0 i)) k)
    (Fin.ext ?_) (Fin.ext ?_)
  all_goals ((try dsimp only) <;> omega)

theorem osg_at (n : Fin 16384) (i : Fin 512) : val_main_v144 (F := Ideal) x g w gs ws bs (ix2 n i)
      = mix (fun s => s.val ≤ (tk n).val % 128) (gelu (col x g w (sq n) (tk n) ⟨4112 + i.val, by omega⟩))
          (fun s => ws (ix4 0 ⟨i.val / 128, by omega⟩ ⟨(tk n).val % 128, by omega⟩ s))
          (fun s => values (fun i => col x g w (sq n) ⟨128 * ((tk n).val / 128) + s.val, by omega⟩ ⟨4624 + i.val, by omega⟩) (fun i => gs (ix2 0 i)) i)
          (bs (ix3 0 ⟨i.val / 128, by omega⟩ ⟨(tk n).val % 128, by omega⟩)) := by
  unfold val_main_v144 val_main_v143
  pointwise
  exact mixed_at x g w gs ws bs _ _ _

end Cert.ProjRead

end
-- ==== Proof.ProjBlocks.lean ====
/- The blocks the prompt projection reads at a grid point, as words of the arguments, and the arrays it leaves. -/
module

public import proofs.«01_k».proof.Proof.ProjPay
public import proofs.«01_k».proof.Proof.ProjRef
public import proofs.«01_k».proof.Proof.Gen.ProjIdeal.Value
public import Idealize.ShloMosaic.Lib.Claim

@[expose] public section

set_option maxRecDepth 16384

noncomputable section

namespace Cert.ProjBlocks

open Idealize.ShloMosaic Idealize.ShloMosaic.TcCoe Idealize.SL.Sem Cert.ProjIdeal Cert.ProjIdeal.Gen Cert.Math Cert.ProjConv Cert.ProjPay
open Idealize.ShloMosaic.Pipeline (Dat)

variable (m : (ℓ : Loc nD τ sig) → Buf (Elt Ideal) ℓ)

/-- Where each window's block lies at each grid point: the rows' tiles in order, the small weights whole, and one block of
    last rows for each sequence. -/
theorem idx : ∀ t : Fin cfg0.N, (win0_0.index t = ![t.val, 0] ∧ win0_8.index t = ![t.val, 0] ∧ win0_9.index t = ![t.val, 0]
    ∧ win0_10.index t = ![t.val, 0] ∧ win0_11.index t = ![t.val, 0] ∧ win0_12.index t = ![t.val, 0]
    ∧ win0_13.index t = ![t.val / 4, 0, 0])
    ∧ win0_1.index t = ![0, 0] ∧ win0_4.index t = ![0, 0] ∧ win0_5.index t = ![0, 0, 0] ∧ win0_6.index t = ![0, 0]
    ∧ win0_7.index t = ![0, 0] :=
  (by decide +kernel : ∀ t : Fin grid0.N, _)

/-- The last rows are written back after a sequence's last tile. -/
theorem last : ∀ t : Fin cfg0.N, (cfg0.win 13).flush t = true → t.val % 4 = 3 :=
  (by decide +kernel : ∀ t : Fin grid0.N, _)

/-- The projection's weights come in two pieces, the rows from 0 on and those from 4096 on. -/
theorem idx23 : ∀ t : Fin cfg0.N, win0_2.index t = ![0, 0] ∧ win0_3.index t = ![4096, 0] :=
  (by decide +kernel : ∀ t : Fin grid0.N, _)

/-- The element windows' blocks begin at their index maps' values. -/
theorem emb2 (t : Fin cfg0.N) (y : S4096x1024.Idx) (a : Fin 2) :
    ((((cfg0.win 2).blk t).view.emb y a : Fin _) : ℕ) = win0_2.index t a + (y a : ℕ) :=
  Pipeline.Window.rect_emb_val_off win0_2 t y a

theorem emb3 (t : Fin cfg0.N) (y : S1552x1024.Idx) (a : Fin 2) :
    ((((cfg0.win 3).blk t).view.emb y a : Fin _) : ℕ) = win0_3.index t a + (y a : ℕ) :=
  Pipeline.Window.rect_emb_val_off win0_3 t y a

theorem t_lt (t : Fin cfg0.N) : t.val < 32 := t.isLt

/-- Row `r` of point `t`'s tile among all rows; the sequence a row belongs to, and its place there. -/
abbrev row (t : Fin cfg0.N) (r : Fin 512) : Fin 16384 := ⟨512 * t.val + r.val, by have := t_lt t; omega⟩
abbrev sq (n : Fin 16384) : Fin 8 := ⟨n.val / 2048, by omega⟩
abbrev tk (n : Fin 16384) : Fin 2048 := ⟨n.val % 2048, by omega⟩

/-- The arguments. -/
abbrev ax (c : Dev nD) : FVec Ideal S8x2048x1024 .f32 := m ((c : Thread nD τ).loc main_arg0)
abbrev ag (c : Dev nD) : FVec Ideal S1x1024 .f32 := m ((c : Thread nD τ).loc main_arg1)
abbrev aw (c : Dev nD) : FVec Ideal S1x1024x8720 .f32 := m ((c : Thread nD τ).loc main_arg2)
abbrev ags (c : Dev nD) : FVec Ideal S1x512 .f32 := m ((c : Thread nD τ).loc main_arg3)
abbrev aws (c : Dev nD) : FVec Ideal S1x4x128x128 .f32 := m ((c : Thread nD τ).loc main_arg4)
abbrev abs (c : Dev nD) : FVec Ideal S1x4x128 .f32 := m ((c : Thread nD τ).loc main_arg5)
abbrev acw (c : Dev nD) : FVec Ideal S1x4x3072 .f32 := m ((c : Thread nD τ).loc main_arg6)

theorem blk0 (c : Dev nD) (t : Fin cfg0.N) (r : Fin 512) (k : Fin 1024) :
    (iblk m c 0 t : FVec Ideal S512x1024 .f32) (ix2 r k) = ax m c (ix3 (sq (row t r)) (tk (row t r)) k) := by
  blk_simp [iblk, idx t]
  entry_read
  pointwise
  blk_ext [idx t]

theorem blk1 (c : Dev nD) (t : Fin cfg0.N) (k : Fin 1024) :
    (iblk m c 1 t : FVec Ideal S1x1024 .f32) (ix2 0 k) = ag m c (ix2 0 k) := by
  blk_simp [iblk, idx t]
  entry_read
  pointwise
  blk_ext [idx t]

theorem blk2 (c : Dev nD) (t : Fin cfg0.N) (n : Fin 4096) (k : Fin 1024) :
    (iblk m c 2 t : FVec Ideal S4096x1024 .bf16) (ix2 n k) = aw m c (ix3 0 k ⟨n.val, by omega⟩) := by
  blk_simp [iblk]
  entry_read
  pointwise
  have e0 := emb2 t (ix2 n k) 0
  have e1 := emb2 t (ix2 n k) 1
  rw [(idx23 t).1] at e0 e1
  exact congrArg (aw m c) (congrArg₂ (ix3 (n0 := 1) (n1 := 1024) (n2 := 8720) 0)
    (Fin.ext (e1.trans (Nat.zero_add _))) (Fin.ext (e0.trans (Nat.zero_add _))))

theorem blk3 (c : Dev nD) (t : Fin cfg0.N) (n : Fin 1552) (k : Fin 1024) :
    (iblk m c 3 t : FVec Ideal S1552x1024 .bf16) (ix2 n k) = aw m c (ix3 0 k ⟨4096 + n.val, by omega⟩) := by
  blk_simp [iblk]
  entry_read
  pointwise
  have e0 := emb3 t (ix2 n k) 0
  have e1 := emb3 t (ix2 n k) 1
  rw [(idx23 t).2] at e0 e1
  exact congrArg (aw m c) (congrArg₂ (ix3 (n0 := 1) (n1 := 1024) (n2 := 8720) 0)
    (Fin.ext (e1.trans (Nat.zero_add _))) (Fin.ext e0))

theorem blk4 (c : Dev nD) (t : Fin cfg0.N) (k : Fin 512) :
    (iblk m c 4 t : FVec Ideal S1x512 .f32) (ix2 0 k) = ags m c (ix2 0 k) := by
  blk_simp [iblk, idx t]
  entry_read
  pointwise
  blk_ext [idx t]

theorem blk5 (c : Dev nD) (t : Fin cfg0.N) (h : Fin 4) (p s : Fin 128) :
    (iblk m c 5 t : FVec Ideal S4x128x128 .f32) (ix3 h p s) = aws m c (ix4 0 h p s) := by
  blk_simp [iblk, idx t]
  entry_read
  pointwise
  blk_ext [idx t]

theorem blk6 (c : Dev nD) (t : Fin cfg0.N) (p : Fin 128) (h : Fin 4) :
    (iblk m c 6 t : FVec Ideal S128x4 .f32) (ix2 p h) = abs m c (ix3 0 h p) := by
  blk_simp [iblk, idx t]
  entry_read
  pointwise
  blk_ext [idx t]

theorem blk7 (c : Dev nD) (t : Fin cfg0.N) (j : Fin 4) (n : Fin 3072) :
    (iblk m c 7 t : FVec Ideal S4x3072 .f32) (ix2 j n) = acw m c (ix3 0 j n) := by
  blk_simp [iblk, idx t]
  entry_read
  pointwise
  blk_ext [idx t]

/-- Column `k` of the projection at place `p` of sequence `b`, and of row `n`. -/
abbrev colAt (c : Dev nD) (b : Fin 8) (p : Fin 2048) (k : Fin 8720) : EReal :=
  projCol (fun j => ax m c (ix3 b p j)) (ag m c) (aw m c) k
abbrev col (c : Dev nD) (n : Fin 16384) : Fin 8720 → EReal := colAt m c (sq n) (tk n)

theorem col_ext (c : Dev nD) (n : Fin 16384) {k l : Fin 8720} (h : k.val = l.val) : col m c n k = col m c n l :=
  congrArg (col m c n) (Fin.ext h)

/-- A column at two names of the same place. -/
theorem at_ext (c : Dev nD) {b d : Fin 8} {p q : Fin 2048} {k l : Fin 8720} (hb : b.val = d.val) (hp : p.val = q.val)
    (hk : k.val = l.val) : colAt m c b p k = colAt m c d q l := by
  rw [Fin.ext hb, Fin.ext hp, Fin.ext hk]

/-- The values at place `p` of sequence `b`, and of row `n`. -/
abbrev valsAt (c : Dev nD) (b : Fin 8) (p : Fin 2048) : Fin 512 → EReal :=
  values (fun i => colAt m c b p ⟨4624 + i.val, by omega⟩) fun i => ags m c (ix2 0 i)
abbrev vals (c : Dev nD) (n : Fin 16384) : Fin 512 → EReal := valsAt m c (sq n) (tk n)

/-- The convolution's gated columns at place `p` of sequence `b`. -/
abbrev actAt (c : Dev nD) (b : Fin 8) (p : Fin 2048) : Fin 3072 → EReal :=
  ProjRead.actAt (ax m c) (ag m c) (aw m c) (acw m c) b p

/-- The arrays the kernel leaves, from the arguments. -/
def Gqkv (c : Dev nD) : FVec Ideal S16384x3072 .bf16 := fun i => heads (actAt m c (sq (i 0)) (tk (i 0))) (i 1)
def Gz (c : Dev nD) : FVec Ideal S16384x1024 .bf16 := fun i => silu (col m c (i 0) ⟨3072 + (i 1).val, by have : (i 1).val < 1024 := (i 1).isLt; omega⟩)
def Gba (c : Dev nD) : FVec Ideal S16384x128 .f32 := fun i => col m c (i 0) ⟨4096 + (i 1).val, by have : (i 1).val < 128 := (i 1).isLt; omega⟩
def Gqm (c : Dev nD) : FVec Ideal S16384x512 .bf16 := fun i => col m c (i 0) ⟨5136 + (i 1).val, by have : (i 1).val < 512 := (i 1).isLt; omega⟩
def Gtail (c : Dev nD) : FVec Ideal S8x8x3072 .f32 := fun i =>
  colAt m c (i 0) ⟨2040 + (i 1).val, by have : (i 1).val < 8 := (i 1).isLt; omega⟩ ⟨(i 2).val, by have : (i 2).val < 3072 := (i 2).isLt; omega⟩
def osg (c : Dev nD) (n : Fin 16384) (i : Fin 512) : EReal :=
  mix (fun s => s.val ≤ (tk n).val % 128) (gelu (col m c n ⟨4112 + i.val, by omega⟩))
    (fun s => aws m c (ix4 0 ⟨i.val / 128, by omega⟩ ⟨(tk n).val % 128, by omega⟩ s))
    (fun s => valsAt m c (sq n) ⟨128 * ((tk n).val / 128) + s.val, by omega⟩ i)
    (abs m c (ix3 0 ⟨i.val / 128, by omega⟩ ⟨(tk n).val % 128, by omega⟩))
def Gosg (c : Dev nD) : FVec Ideal S16384x512 .bf16 := fun i => osg m c (i 0) (i 1)

theorem colA_eq (c : Dev nD) (t : Fin cfg0.N) (r : Fin 512) (n : Fin 4096) :
    (dot (xn (iblk m c 0 t) (iblk m c 1 t) r) fun k => (iblk m c 2 t : FVec Ideal S4096x1024 .bf16) (ix2 n k))
      = col m c (row t r) ⟨n.val, by omega⟩ := by
  unfold xn
  simp only [blk0, blk1, blk2]
  rfl

theorem colB_eq (c : Dev nD) (t : Fin cfg0.N) (r : Fin 512) (n : Fin 1552) :
    colB (iblk m c 0 t) (iblk m c 1 t) (iblk m c 3 t) r n = col m c (row t r) ⟨4096 + n.val, by omega⟩ := by
  unfold colB xn
  simp only [blk0, blk1, blk3]
  rfl

theorem vrow_eq (c : Dev nD) (t : Fin cfg0.N) (r : Fin 512) :
    vrow (iblk m c 0 t) (iblk m c 1 t) (iblk m c 3 t) (iblk m c 4 t) r = vals m c (row t r) := by
  unfold vrow vals
  simp only [colB_eq, blk4]
  exact congrArg₂ values (funext fun i => col_ext m c _ (by show 4096 + (528 + i.val) = 4624 + i.val; omega)) rfl

/-- The tile's last rows, as places of their sequence. -/
theorem tail_eq (c : Dev nD) (t : Fin cfg0.N) (j : Fin 8) (n : Fin 3072) :
    tailword (iblk m c 0 t) (iblk m c 1 t) (iblk m c 2 t) (ix2 j n)
      = colAt m c ⟨t.val / 4, by have := t_lt t; omega⟩ ⟨512 * (t.val % 4) + 504 + j.val, by omega⟩ ⟨n.val, by omega⟩ := by
  unfold tailword
  refine (colA_eq m c t ⟨504 + j.val, by omega⟩ ⟨n.val, by omega⟩).trans (at_ext m c ?_ ?_ rfl)
  · show (512 * t.val + (504 + j.val)) / 2048 = t.val / 4
    omega
  · show (512 * t.val + (504 + j.val)) % 2048 = 512 * (t.val % 4) + 504 + j.val
    omega

/-- The scratch buffer after each point holds them. -/
theorem carried (c : Dev nD) (t : Fin cfg0.N) (j : Fin 8) (n : Fin 3072) :
    ((outsAt0 m c t.val t.isLt).2.2.2.2.2.2 : FVec Ideal S8x3072 .f32) (ix2 j n)
      = colAt m c ⟨t.val / 4, by have := t_lt t; omega⟩ ⟨512 * (t.val % 4) + 504 + j.val, by omega⟩ ⟨n.val, by omega⟩ := by
  refine Eq.trans ?_ (tail_eq m c t j n)
  by_cases h0 : t.val % 4 = 0
  · rw [outsAt0_A m c t h0]
    dsimp only
    exact (sout_at (xs := fun _ => (0 : EReal)) ..).1 _
  · rw [outsAt0_B m c t h0]
    dsimp only
    exact (sout_at ..).2 _

theorem at13 (c : Dev nD) (t : Fin cfg0.N) (y : S1x8x3072.Idx) :
    ((outsAt0 m c t.val t.isLt).2.2.2.2.2.1 : FVec Ideal S1x8x3072 .f32) y
      = tailword (iblk m c 0 t) (iblk m c 1 t) (iblk m c 2 t) (ix2 (y 1) (y 2)) := by
  by_cases h0 : t.val % 4 = 0
  · rw [outsAt0_A m c t h0]
    dsimp only
    exact (out13_at (xs := fun _ => (0 : EReal)) ..).1 _
  · rw [outsAt0_B m c t h0]
    dsimp only
    exact (out13_at ..).2 _

theorem at9 (c : Dev nD) (t : Fin cfg0.N) (r : Fin 512) (n : Fin 1024) :
    ((outsAt0 m c t.val t.isLt).2.1 : FVec Ideal S512x1024 .bf16) (ix2 r n) = silu (col m c (row t r) ⟨3072 + n.val, by omega⟩) := by
  refine Eq.trans ?_ (congrArg silu (colA_eq m c t r ⟨3072 + n.val, by omega⟩))
  by_cases h0 : t.val % 4 = 0
  · rw [outsAt0_A m c t h0]
    dsimp only
    exact (out9_at (xs := fun _ => (0 : EReal)) ..).1 _
  · rw [outsAt0_B m c t h0]
    dsimp only
    exact (out9_at ..).2 _

theorem at10 (c : Dev nD) (t : Fin cfg0.N) (r : Fin 512) (n : Fin 128) :
    ((outsAt0 m c t.val t.isLt).2.2.1 : FVec Ideal S512x128 .f32) (ix2 r n) = col m c (row t r) ⟨4096 + n.val, by omega⟩ := by
  refine Eq.trans ?_ (colB_eq m c t r ⟨n.val, by omega⟩)
  by_cases h0 : t.val % 4 = 0
  · rw [outsAt0_A m c t h0]
    dsimp only
    exact (out10_at (xs := fun _ => (0 : EReal)) ..).1 _
  · rw [outsAt0_B m c t h0]
    dsimp only
    exact (out10_at ..).2 _

theorem at12 (c : Dev nD) (t : Fin cfg0.N) (r n : Fin 512) :
    ((outsAt0 m c t.val t.isLt).2.2.2.2.1 : FVec Ideal S512x512 .bf16) (ix2 r n) = col m c (row t r) ⟨5136 + n.val, by omega⟩ := by
  refine Eq.trans ?_ ((colB_eq m c t r ⟨1040 + n.val, by omega⟩).trans
    (col_ext m c (row t r) (by show 4096 + (1040 + n.val) = 5136 + n.val; omega)))
  by_cases h0 : t.val % 4 = 0
  · rw [outsAt0_A m c t h0]
    dsimp only
    exact (out12_at (xs := fun _ => (0 : EReal)) ..).1 _
  · rw [outsAt0_B m c t h0]
    dsimp only
    exact (out12_at ..).2 _

theorem osg_eq (c : Dev nD) (t : Fin cfg0.N) (r i : Fin 512) :
    tiles (iblk m c 0 t) (iblk m c 1 t) (iblk m c 3 t) (iblk m c 4 t) (iblk m c 5 t) (iblk m c 6 t) (ix2 r i)
      = osg m c (row t r) i := by
  show mix (upTo (lo r)) (gelu (colB _ _ _ r ⟨16 + i.val, by omega⟩)) (fun s => (iblk m c 5 t : FVec Ideal S4x128x128 .f32) (ix3 (hi i) (lo r) s))
    (fun s => vrow _ _ _ _ (beside r s) i) ((iblk m c 6 t : FVec Ideal S128x4 .f32) (ix2 (lo r) (hi i))) = _
  simp only [colB_eq, vrow_eq, blk5, blk6]
  have hr : r.val % 128 = (512 * t.val + r.val) % 2048 % 128 := by omega
  have e : lo r = ⟨(tk (row t r)).val % 128, by omega⟩ := Fin.ext hr
  unfold osg
  refine congr (congr (congr (congr (congrArg mix (congrArg upTo e)) ?_) (funext fun s => ?_)) (funext fun s => ?_)) ?_
  · exact congrArg gelu (col_ext m c _ (by show 4096 + (16 + i.val) = 4112 + i.val; omega))
  · exact congrArg (fun p => aws m c (ix4 0 (hi i) p s)) e
  · refine congrArg₂ (fun b p => valsAt m c b p i) (Fin.ext ?_) (Fin.ext ?_)
    · show (512 * t.val + (128 * (r.val / 128) + s.val)) / 2048 = (512 * t.val + r.val) / 2048
      omega
    · show (512 * t.val + (128 * (r.val / 128) + s.val)) % 2048 = 128 * ((512 * t.val + r.val) % 2048 / 128) + s.val
      omega
  · exact congrArg (fun p => abs m c (ix3 0 (hi i) p)) e

theorem at11 (c : Dev nD) (t : Fin cfg0.N) (r i : Fin 512) :
    ((outsAt0 m c t.val t.isLt).2.2.2.1 : FVec Ideal S512x512 .bf16) (ix2 r i) = osg m c (row t r) i := by
  refine Eq.trans ?_ (osg_eq m c t r i)
  by_cases h0 : t.val % 4 = 0
  · rw [outsAt0_A m c t h0]
    dsimp only
    exact (out11_at (xs := fun _ => (0 : EReal)) ..).1 _
  · rw [outsAt0_B m c t h0]
    dsimp only
    exact (out11_at ..).2 _

/-- Two convolutions whose last four rows agree. -/
theorem conv_congr (w : Fin 4 → EReal) {b d : ℕ → EReal} (h : ∀ s, s ≤ 3 → b s = d s) : conv w b = conv w d := by
  unfold conv
  rw [h 0 (by omega), h 1 (by omega), h 2 (by omega), h 3 (by omega)]

/-- The rows before a row, in the tile and in what is carried over, are those before it in its sequence: nothing is carried
    to a sequence's first tile. -/
theorem word_at (c : Dev nD) (t : Fin cfg0.N) (old : Fin 8 → Fin 3072 → EReal)
    (hold : ∀ j n, old j n = if h : t.val % 4 = 0 then 0 else
      colAt m c ⟨t.val / 4, by have := t_lt t; omega⟩ ⟨512 * (t.val % 4) - 8 + j.val, by omega⟩ ⟨n.val, by omega⟩) (r : Fin 512) (l : Fin 3072) :
    word (rawA (iblk m c 0 t) (iblk m c 1 t) (iblk m c 2 t)) old (iblk m c 7 t) (ix2 r l)
      = heads (actAt m c (sq (row t r)) (tk (row t r))) l := by
  show heads (act (rawA (iblk m c 0 t) (iblk m c 1 t) (iblk m c 2 t)) old
    (fun j n => (iblk m c 7 t : FVec Ideal S4x3072 .f32) (ix2 j n)) r) l = _
  refine congrArg (fun f => heads f l) (funext fun n => ?_)
  unfold act
  simp only [blk7]
  refine congrArg silu (conv_congr _ fun s hs => ?_)
  unfold before ProjRead.back
  by_cases h : s ≤ r.val
  · rw [dif_pos h, dif_pos (show s ≤ (512 * t.val + r.val) % 2048 by omega)]
    refine (colA_eq m c t ⟨r.val - s, by omega⟩ ⟨n.val, by omega⟩).trans (at_ext m c ?_ ?_ rfl)
    · show (512 * t.val + (r.val - s)) / 2048 = (512 * t.val + r.val) / 2048
      omega
    · show (512 * t.val + (r.val - s)) % 2048 = (512 * t.val + r.val) % 2048 - s
      omega
  · rw [dif_neg h, hold]
    by_cases h0 : t.val % 4 = 0
    · rw [dif_pos h0, dif_neg (show ¬ s ≤ (512 * t.val + r.val) % 2048 by omega)]
    · rw [dif_neg h0, dif_pos (show s ≤ (512 * t.val + r.val) % 2048 by omega)]
      refine at_ext m c ?_ ?_ rfl
      · show t.val / 4 = (512 * t.val + r.val) / 2048
        omega
      · show 512 * (t.val % 4) - 8 + (8 + r.val - s) % 8 = (512 * t.val + r.val) % 2048 - s
        omega

theorem at8 (c : Dev nD) (t : Fin cfg0.N) (r : Fin 512) (l : Fin 3072) :
    ((outsAt0 m c t.val t.isLt).1 : FVec Ideal S512x3072 .bf16) (ix2 r l) = heads (actAt m c (sq (row t r)) (tk (row t r))) l := by
  by_cases h0 : t.val % 4 = 0
  · rw [outsAt0_A m c t h0]
    dsimp only
    exact (out8_A ..).trans (word_at m c t _ (fun j n => (dif_pos h0).symm) r l)
  · have hp : t.val - 1 < cfg0.N := by have := t.isLt; omega
    rw [outsAt0_B m c t h0]
    dsimp only
    refine (out8_B ..).trans (word_at m c t _ (fun j n => ?_) r l)
    rw [dif_neg h0]
    refine (carried m c ⟨t.val - 1, hp⟩ j n).trans (at_ext m c ?_ ?_ rfl)
    · show (t.val - 1) / 4 = t.val / 4
      omega
    · show 512 * ((t.val - 1) % 4) + 504 + j.val = 512 * (t.val % 4) - 8 + j.val
      omega

theorem final8 (c : Dev nD) : (dats m 0 c).arrAt 8 (cfgs 0).N = Gqkv m c := by
  refine (dats m 0 c).arrAt_eq_of_covers 8 _ (by decide +kernel) fun t _ y => ?_
  blk_simp
  rw [after0_8]
  obtain ⟨r, l, rfl⟩ : ∃ (r : Fin 512) (l : Fin 3072), y = ix2 r l := ⟨y 0, y 1, eq_ix2 y⟩
  refine (at8 m c t r l).trans ?_
  show Gqkv m c (ix2 (row t r) l) = _
  refine congrArg (Gqkv m c) ?_
  blk_ext [idx t]

theorem final9 (c : Dev nD) : (dats m 0 c).arrAt 9 (cfgs 0).N = Gz m c := by
  refine (dats m 0 c).arrAt_eq_of_covers 9 _ (by decide +kernel) fun t _ y => ?_
  blk_simp
  rw [after0_9]
  obtain ⟨r, l, rfl⟩ : ∃ (r : Fin 512) (l : Fin 1024), y = ix2 r l := ⟨y 0, y 1, eq_ix2 y⟩
  refine (at9 m c t r l).trans ?_
  show Gz m c (ix2 (row t r) l) = _
  refine congrArg (Gz m c) ?_
  blk_ext [idx t]

theorem final10 (c : Dev nD) : (dats m 0 c).arrAt 10 (cfgs 0).N = Gba m c := by
  refine (dats m 0 c).arrAt_eq_of_covers 10 _ (by decide +kernel) fun t _ y => ?_
  blk_simp
  rw [after0_10]
  obtain ⟨r, l, rfl⟩ : ∃ (r : Fin 512) (l : Fin 128), y = ix2 r l := ⟨y 0, y 1, eq_ix2 y⟩
  refine (at10 m c t r l).trans ?_
  show Gba m c (ix2 (row t r) l) = _
  refine congrArg (Gba m c) ?_
  blk_ext [idx t]

theorem final11 (c : Dev nD) : (dats m 0 c).arrAt 11 (cfgs 0).N = Gosg m c := by
  refine (dats m 0 c).arrAt_eq_of_covers 11 _ (by decide +kernel) fun t _ y => ?_
  blk_simp
  rw [after0_11]
  obtain ⟨r, l, rfl⟩ : ∃ (r : Fin 512) (l : Fin 512), y = ix2 r l := ⟨y 0, y 1, eq_ix2 y⟩
  refine (at11 m c t r l).trans ?_
  show Gosg m c (ix2 (row t r) l) = _
  refine congrArg (Gosg m c) ?_
  blk_ext [idx t]

theorem final12 (c : Dev nD) : (dats m 0 c).arrAt 12 (cfgs 0).N = Gqm m c := by
  refine (dats m 0 c).arrAt_eq_of_covers 12 _ (by decide +kernel) fun t _ y => ?_
  blk_simp
  rw [after0_12]
  obtain ⟨r, l, rfl⟩ : ∃ (r : Fin 512) (l : Fin 512), y = ix2 r l := ⟨y 0, y 1, eq_ix2 y⟩
  refine (at12 m c t r l).trans ?_
  show Gqm m c (ix2 (row t r) l) = _
  refine congrArg (Gqm m c) ?_
  blk_ext [idx t]

theorem final13 (c : Dev nD) : (dats m 0 c).arrAt 13 (cfgs 0).N = Gtail m c := by
  refine (dats m 0 c).arrAt_eq_of_covers 13 _ (by decide +kernel) fun t hf y => ?_
  have h3 := last t hf
  blk_simp
  rw [after0_13]
  obtain ⟨a, j, n, rfl⟩ : ∃ (a : Fin 1) (j : Fin 8) (n : Fin 3072), y = ix3 a j n := ⟨y 0, y 1, y 2, eq_ix3 y⟩
  refine (at13 m c t (ix3 a j n)).trans ((tail_eq m c t j n).trans
    ((at_ext m c (q := ⟨2040 + j.val, by omega⟩) rfl (by show 512 * (t.val % 4) + 504 + j.val = 2040 + j.val; omega) rfl).trans ?_))
  show Gtail m c (ix3 ⟨t.val / 4, by have := t_lt t; omega⟩ j n) = _
  refine congrArg (Gtail m c) ?_
  blk_ext [idx t]

end Cert.ProjBlocks

end
-- ==== Proof.ProjClaim.lean ====
/- The claims of the prompt's projection: the frames of its three programs and the equality of the six results. -/
module

public import proofs.«01_k».proof.Defs
public import proofs.«01_k».proof.Proof.Gen.Proj.Frame
public import proofs.«01_k».proof.Proof.Gen.ProjRefIdeal.Run
public import proofs.«01_k».proof.Proof.ProjBlocks

@[expose] public section

set_option maxRecDepth 16384
set_option maxHeartbeats 2000000

noncomputable section

namespace Cert.ProjClaim

open Idealize.ShloMosaic Idealize.ShloMosaic.TcCoe Idealize.SL.Sem Cert.Math

attribute [local instance] Cert.Proj.Gen.facts Cert.ProjIdeal.Gen.facts Cert.ProjRefIdeal.Gen.facts

theorem frame_kernel : Cert.quiescent_Proj := fun m g _ => Cert.Proj.Gen.frame m g

theorem frame_ideal : Cert.quiescent_ProjIdeal := fun m g _ => Cert.ProjIdeal.Gen.frame m g

/-- The reference declares no semaphore. -/
theorem frame_ref : Cert.quiescent_ProjRefIdeal := fun m g _ =>
  (θ_run _ _ _).mono (fun r h => ⟨fun c => (h c).2.2.2.2.2.2, Idealize.ShloMosaic.sem_eq_zero_of_no_sems (by decide) r.2⟩)
    (Cert.ProjRefIdeal.Value.run m g)

/-- The one named constant is the f32 nearest its real value. -/
theorem preserves : Cert.preserves_Proj_ProjIdeal :=
  IdealRules.named_const.statement Cert.ProjIdeal.κ "neg_log2e" .f32 0xBFB8AA3B#32 _ rfl

theorem algebraic : Cert.algebraic_ProjIdeal_ProjRefIdeal := by
  pair_intro
  · run_from Cert.ProjIdeal.Gen.run_main m g
  · run_from Cert.ProjRefIdeal.Value.run m' g'
    · obtain ⟨h0, h1, h2, h3, h4, h5, h6⟩ := hagree c
      rw [ProjBlocks.final8]
      change ProjRefIdeal.Read.val_main_v138 (m' (c.tc.loc ProjRefIdeal.main_arg0)) (m' (c.tc.loc ProjRefIdeal.main_arg1)) (m' (c.tc.loc ProjRefIdeal.main_arg2)) (m' (c.tc.loc ProjRefIdeal.main_arg6)) = _
      rw [h0, h1, h2, h6]
      funext i
      obtain ⟨r, l, rfl⟩ : ∃ (r : Fin 16384) (l : Fin 3072), i = ix2 r l := ⟨i 0, i 1, eq_ix2 i⟩
      exact ProjRead.qkv_at _ _ _ _ r l
    · obtain ⟨h0, h1, h2, _, _, _, _⟩ := hagree c
      rw [ProjBlocks.final9]
      change ProjRefIdeal.Read.val_main_v141 (m' (c.tc.loc ProjRefIdeal.main_arg0)) (m' (c.tc.loc ProjRefIdeal.main_arg1)) (m' (c.tc.loc ProjRefIdeal.main_arg2)) = _
      rw [h0, h1, h2]
      funext i
      obtain ⟨r, l, rfl⟩ : ∃ (r : Fin 16384) (l : Fin 1024), i = ix2 r l := ⟨i 0, i 1, eq_ix2 i⟩
      exact ProjRead.z_at _ _ _ r l
    · obtain ⟨h0, h1, h2, _, _, _, _⟩ := hagree c
      rw [ProjBlocks.final10]
      change ProjRefIdeal.Read.val_main_v142 (m' (c.tc.loc ProjRefIdeal.main_arg0)) (m' (c.tc.loc ProjRefIdeal.main_arg1)) (m' (c.tc.loc ProjRefIdeal.main_arg2)) = _
      rw [h0, h1, h2]
      funext i
      obtain ⟨r, l, rfl⟩ : ∃ (r : Fin 16384) (l : Fin 128), i = ix2 r l := ⟨i 0, i 1, eq_ix2 i⟩
      exact ProjRead.ba_at _ _ _ r l
    · obtain ⟨h0, h1, h2, h3, h4, h5, h6⟩ := hagree c
      rw [ProjBlocks.final11]
      change ProjRefIdeal.Read.val_main_v144 (m' (c.tc.loc ProjRefIdeal.main_arg0)) (m' (c.tc.loc ProjRefIdeal.main_arg1)) (m' (c.tc.loc ProjRefIdeal.main_arg2)) (m (c.tc.loc ProjIdeal.main_arg3)) (m (c.tc.loc ProjIdeal.main_arg4)) (m (c.tc.loc ProjIdeal.main_arg5)) = _
      rw [h0, h1, h2]
      funext i
      obtain ⟨r, l, rfl⟩ : ∃ (r : Fin 16384) (l : Fin 512), i = ix2 r l := ⟨i 0, i 1, eq_ix2 i⟩
      exact ProjRead.osg_at _ _ _ _ _ _ r l
    · obtain ⟨h0, h1, h2, _, _, _, _⟩ := hagree c
      rw [ProjBlocks.final12]
      change ProjRefIdeal.Read.val_main_v146 (m' (c.tc.loc ProjRefIdeal.main_arg0)) (m' (c.tc.loc ProjRefIdeal.main_arg1)) (m' (c.tc.loc ProjRefIdeal.main_arg2)) = _
      rw [h0, h1, h2]
      funext i
      obtain ⟨r, l, rfl⟩ : ∃ (r : Fin 16384) (l : Fin 512), i = ix2 r l := ⟨i 0, i 1, eq_ix2 i⟩
      exact ProjRead.qm_at _ _ _ r l
    · obtain ⟨h0, h1, h2, _, _, _, _⟩ := hagree c
      rw [ProjBlocks.final13]
      change ProjRefIdeal.Read.val_main_v147 (m' (c.tc.loc ProjRefIdeal.main_arg0)) (m' (c.tc.loc ProjRefIdeal.main_arg1)) (m' (c.tc.loc ProjRefIdeal.main_arg2)) = _
      rw [h0, h1, h2]
      funext i
      obtain ⟨b, j, n, rfl⟩ : ∃ (b : Fin 8) (j : Fin 8) (n : Fin 3072), i = ix3 b j n := ⟨i 0, i 1, i 2, eq_ix3 i⟩
      exact ProjRead.tail_at _ _ _ b j n

end Cert.ProjClaim

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Pre_finite_scores
public import proofs.«01_k».proof.Proof.Gen.MergeIdeal.Value
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.ProjSIdeal.Value
public import proofs.«01_k».proof.Proof.Gen.ProjSRefIdeal.Run
public import proofs.«01_k».proof.Proof.Gen.ProjSRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.MergeRefIdeal.Run
public import proofs.«01_k».proof.Proof.Gen.MergeRefIdeal.Read
public import proofs.«01_k».proof.Proof.MergeClaim
public import proofs.«01_k».proof.Proof.FfnClaim
public import proofs.«01_k».proof.Proof.MemKvClaim
public import proofs.«01_k».proof.Proof.ProjSClaim
public import proofs.«01_k».proof.Proof.ProjClaim
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts, Cert.MergeIdeal.Gen.facts, Cert.MergeRefIdeal.Gen.facts,
  Cert.Ffn.Gen.facts, Cert.FfnIdeal.Gen.facts, Cert.FfnRefIdeal.Gen.facts,
  Cert.MemKv.Gen.facts, Cert.MemKvIdeal.Gen.facts, Cert.MemKvRefIdeal.Gen.facts,
  Cert.ProjS.Gen.facts, Cert.ProjSIdeal.Gen.facts, Cert.ProjSRefIdeal.Gen.facts,
  Cert.Proj.Gen.facts, Cert.ProjIdeal.Gen.facts, Cert.ProjRefIdeal.Gen.facts,
  Cert.Pre_finite_scores.Gen.facts,
  MergeClaim.frame_kernel, MergeClaim.frame_ideal, MergeClaim.frame_ideal_pre, MergeClaim.frame_ref, MergeClaim.frame_ref_pre,
  FfnClaim.frame_kernel, FfnClaim.frame_ideal, FfnClaim.frame_ref,
  MemKvClaim.frame_kernel, MemKvClaim.frame_ideal, MemKvClaim.frame_ref,
  ProjSClaim.frame_kernel, ProjSClaim.frame_ideal, ProjSClaim.frame_ref,
  ProjClaim.frame_kernel, ProjClaim.frame_ideal, ProjClaim.frame_ref,
  MergeClaim.preserves, MergeClaim.algebraic,
  FfnClaim.preserves, FfnClaim.algebraic,
  MemKvClaim.preserves, MemKvClaim.algebraic,
  ProjSClaim.preserves, ProjSClaim.algebraic,
  ProjClaim.preserves, ProjClaim.algebraic⟩

end Cert.Proof

end
